-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_router [hPre_finite_router : Cert.Pre_finite_router.Facts] (m : (ℓ : Loc Cert.KernelIdeal.nD Cert.KernelIdeal.τ Cert.KernelIdeal.sig) → Buf (Elt Ideal) ℓ) : Prop :=
  ∀ c : Dev Cert.KernelIdeal.nD,
    (Cert.Pre_finite_router.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_router [hPre_finite_router : Cert.Pre_finite_router.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_router.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_router [hKernelIdeal : Cert.KernelIdeal.Facts] [hPre_finite_router : Cert.Pre_finite_router.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_router m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_router [hReferenceIdeal : Cert.ReferenceIdeal.Facts] [hPre_finite_router : Cert.Pre_finite_router.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_router m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_router [hKernelIdeal : Cert.KernelIdeal.Facts] [hReferenceIdeal : Cert.ReferenceIdeal.Facts] [hPre_finite_router : Cert.Pre_finite_router.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_router m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_router : Cert.Pre_finite_router.Facts),
    quiescent_Kernel (hKernel := hKernel)
    ∧ quiescent_KernelIdeal (hKernelIdeal := hKernelIdeal)
    ∧ quiescent_KernelIdeal_pre_finite_router (hKernelIdeal := hKernelIdeal) (hPre_finite_router := hPre_finite_router)
    ∧ quiescent_ReferenceIdeal (hReferenceIdeal := hReferenceIdeal)
    ∧ quiescent_ReferenceIdeal_pre_finite_router (hReferenceIdeal := hReferenceIdeal) (hPre_finite_router := hPre_finite_router)
    ∧ preserves_Kernel_KernelIdeal
    ∧ algebraic_KernelIdeal_ReferenceIdeal_pre_finite_router (hKernelIdeal := hKernelIdeal) (hReferenceIdeal := hReferenceIdeal) (hPre_finite_router := hPre_finite_router)
-- ==== Pre_finite_router.lean ====
abbrev S4x2048x768 : Shape := ⟨3, ![4, 2048, 768]⟩
abbrev S4x65 : Shape := ⟨2, ![4, 65]⟩
abbrev S833x256 : Shape := ⟨2, ![833, 256]⟩
abbrev S256 : Shape := ⟨1, ![256]⟩
abbrev S256x8 : Shape := ⟨2, ![256, 8]⟩
abbrev S8 : Shape := ⟨1, ![8]⟩
abbrev S8x768x128 : Shape := ⟨3, ![8, 768, 128]⟩
abbrev S8x128 : Shape := ⟨2, ![8, 128]⟩
abbrev S_ : Shape := ⟨0, ![]⟩

class Facts : Prop where
  bcast_S_S256x8 : S_.BroadcastsInDim S256x8 (![] : Fin 0 → Fin S256x8.rank)
  reducesTo_S256x8_S_d0_1 : S256x8.ReducesTo [0, 1] S_
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : FVec F S4x2048x768 .f32) (main_arg1 : FVec F S4x65 .f32) (main_arg2 : FVec F S833x256 .f32) (main_arg3 : FVec F S256 .f32) (main_arg4 : FVec F S256x8 .f32) (main_arg5 : FVec F S8 .f32) (main_arg6 : FVec F S8x768x128 .f32) (main_arg7 : FVec F S8x128 .f32) : IVec S_ 1 :=
  let main_v0 : FVec F S256x8 .f32 := Host.absf main_arg4
  let main_cst : FVec F S_ .f32 := constant S_ .f32 0x7F800000#32
  let main_v1 : FVec F S256x8 .f32 := broadcastInDim S256x8 ![] bcast_S_S256x8 main_cst
  let main_v2 : IVec S256x8 1 := cmpf .olt main_v0 main_v1
  let main_c : IVec S_ 1 := constantI S_ 1 1#1
  let main_v3 : IVec S_ 1 := (fun x v => Host.reduce IntOp.andi x v reducesTo_S256x8_S_d0_1 h_S_) main_v2 main_c
  let main_v4 : FVec F S8 .f32 := Host.absf main_arg5
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  main_v8
-- ==== Kernel.lean ====
abbrev S4x2048x768 : Shape := ⟨3, ![4, 2048, 768]⟩
abbrev S4x65 : Shape := ⟨2, ![4, 65]⟩
abbrev S833x256 : Shape := ⟨2, ![833, 256]⟩
abbrev S256 : Shape := ⟨1, ![256]⟩
abbrev S256x8 : Shape := ⟨2, ![256, 8]⟩
abbrev S8 : Shape := ⟨1, ![8]⟩
abbrev S8x768x128 : Shape := ⟨3, ![8, 768, 128]⟩
abbrev S8x128 : Shape := ⟨2, ![8, 128]⟩
abbrev S8192x768 : Shape := ⟨2, ![8192, 768]⟩
abbrev S4x1x65 : Shape := ⟨3, ![4, 1, 65]⟩
abbrev S1x256 : Shape := ⟨2, ![1, 256]⟩
abbrev S1x8 : Shape := ⟨2, ![1, 8]⟩
abbrev S768x8x128 : Shape := ⟨3, ![768, 8, 128]⟩
abbrev S768x1024 : Shape := ⟨2, ![768, 1024]⟩
abbrev S1x1024 : Shape := ⟨2, ![1, 1024]⟩
abbrev S8192x128 : Shape := ⟨2, ![8192, 128]⟩
abbrev S8192x1 : Shape := ⟨2, ![8192, 1]⟩
abbrev S2048x768 : Shape := ⟨2, ![2048, 768]⟩
abbrev S1x1x65 : Shape := ⟨3, ![1, 1, 65]⟩
abbrev S2048x128 : Shape := ⟨2, ![2048, 128]⟩
abbrev S2048x1 : Shape := ⟨2, ![2048, 1]⟩
abbrev S1x65 : Shape := ⟨2, ![1, 65]⟩
abbrev S2048x65 : Shape := ⟨2, ![2048, 65]⟩
abbrev S2048x833 : Shape := ⟨2, ![2048, 833]⟩
abbrev S2048x256 : Shape := ⟨2, ![2048, 256]⟩
abbrev S2048x8 : Shape := ⟨2, ![2048, 8]⟩
abbrev S2048 : Shape := ⟨1, ![2048]⟩
abbrev S2048x1024 : Shape := ⟨2, ![2048, 1024]⟩
abbrev S4x2048x128 : Shape := ⟨3, ![4, 2048, 128]⟩
abbrev S4x2048 : Shape := ⟨2, ![4, 2048]⟩

abbrev nBuf : Space → Nat
  | .hbm => 22
  | .vmem => 16
  | .smem => 0
  | _ => 0

abbrev bufTy : (tb : Table) → Fin (tcTables nBuf tb) → BufTy
  | .hbm, ⟨0, _⟩ => ⟨S4x2048x768, .f32⟩
  | .hbm, ⟨1, _⟩ => ⟨S4x65, .f32⟩
  | .hbm, ⟨2, _⟩ => ⟨S833x256, .f32⟩
  | .hbm, ⟨3, _⟩ => ⟨S256, .f32⟩
  | .hbm, ⟨4, _⟩ => ⟨S256x8, .f32⟩
  | .hbm, ⟨5, _⟩ => ⟨S8, .f32⟩
  | .hbm, ⟨6, _⟩ => ⟨S8x768x128, .f32⟩
  | .hbm, ⟨7, _⟩ => ⟨S8x128, .f32⟩
  | .hbm, ⟨8, _⟩ => ⟨S8192x768, .f32⟩
  | .hbm, ⟨9, _⟩ => ⟨S4x1x65, .f32⟩
  | .hbm, ⟨10, _⟩ => ⟨S1x256, .f32⟩
  | .hbm, ⟨11, _⟩ => ⟨S1x8, .f32⟩
  | .hbm, ⟨12, _⟩ => ⟨S768x8x128, .f32⟩
  | .hbm, ⟨13, _⟩ => ⟨S768x1024, .f32⟩
  | .hbm, ⟨14, _⟩ => ⟨S768x1024, .bf16⟩
  | .hbm, ⟨15, _⟩ => ⟨S1x1024, .f32⟩
  | .hbm, ⟨16, _⟩ => ⟨S8192x128, .f32⟩
  | .hbm, ⟨17, _⟩ => ⟨S8192x1, .f32⟩
  | .hbm, ⟨18, _⟩ => ⟨S8192x1, .i32⟩
  | .hbm, ⟨19, _⟩ => ⟨S4x2048x128, .f32⟩
  | .hbm, ⟨20, _⟩ => ⟨S4x2048, .f32⟩
  | .hbm, ⟨21, _⟩ => ⟨S4x2048, .i32⟩
  | .local _ .vmem, ⟨0, _⟩ => ⟨S2048x768, .f32⟩
  | .local _ .vmem, ⟨1, _⟩ => ⟨S2048x768, .f32⟩
  | .local _ .vmem, ⟨2, _⟩ => ⟨S1x1x65, .f32⟩
  | .local _ .vmem, ⟨3, _⟩ => ⟨S1x1x65, .f32⟩
  | .local _ .vmem, ⟨4, _⟩ => ⟨S833x256, .f32⟩
  | .local _ .vmem, ⟨5, _⟩ => ⟨S1x256, .f32⟩
  | .local _ .vmem, ⟨6, _⟩ => ⟨S256x8, .f32⟩
  | .local _ .vmem, ⟨7, _⟩ => ⟨S1x8, .f32⟩
  | .local _ .vmem, ⟨8, _⟩ => ⟨S768x1024, .bf16⟩
  | .local _ .vmem, ⟨9, _⟩ => ⟨S1x1024, .f32⟩
  | .local _ .vmem, ⟨10, _⟩ => ⟨S2048x128, .f32⟩
  | .local _ .vmem, ⟨11, _⟩ => ⟨S2048x128, .f32⟩
  | .local _ .vmem, ⟨12, _⟩ => ⟨S2048x1, .f32⟩
  | .local _ .vmem, ⟨13, _⟩ => ⟨S2048x1, .f32⟩
  | .local _ .vmem, ⟨14, _⟩ => ⟨S2048x1, .i32⟩
  | .local _ .vmem, ⟨15, _⟩ => ⟨S2048x1, .i32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x65 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S833x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x1 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S4x2048x768 : Shape := ⟨3, ![4, 2048, 768]⟩
abbrev S4x65 : Shape := ⟨2, ![4, 65]⟩
abbrev S833x256 : Shape := ⟨2, ![833, 256]⟩
abbrev S256 : Shape := ⟨1, ![256]⟩
abbrev S256x8 : Shape := ⟨2, ![256, 8]⟩
abbrev S8 : Shape := ⟨1, ![8]⟩
abbrev S8x768x128 : Shape := ⟨3, ![8, 768, 128]⟩
abbrev S8x128 : Shape := ⟨2, ![8, 128]⟩
abbrev S4x1x65 : Shape := ⟨3, ![4, 1, 65]⟩
abbrev S4x2048x65 : Shape := ⟨3, ![4, 2048, 65]⟩
abbrev S4x2048x833 : Shape := ⟨3, ![4, 2048, 833]⟩
abbrev S4x2048x256 : Shape := ⟨3, ![4, 2048, 256]⟩
abbrev S1x1x256 : Shape := ⟨3, ![1, 1, 256]⟩
abbrev S4x2048x8 : Shape := ⟨3, ![4, 2048, 8]⟩
abbrev S1x1x8 : Shape := ⟨3, ![1, 1, 8]⟩
abbrev S_ : Shape := ⟨0, ![]⟩
abbrev S4x2048 : Shape := ⟨2, ![4, 2048]⟩
abbrev S4x2048x1 : Shape := ⟨3, ![4, 2048, 1]⟩
abbrev S4x2048x1x1 : Shape := ⟨4, ![4, 2048, 1, 1]⟩
abbrev S1 : Shape := ⟨1, ![1]⟩
abbrev S1x1x1x1 : Shape := ⟨4, ![1, 1, 1, 1]⟩
abbrev S1x1x1 : Shape := ⟨3, ![1, 1, 1]⟩
abbrev S4x2048x768x128 : Shape := ⟨4, ![4, 2048, 768, 128]⟩
abbrev S4x2048x128 : Shape := ⟨3, ![4, 2048, 128]⟩

abbrev nBuf : Space → Nat
  | .hbm => 112
  | .vmem => 0
  | .smem => 0
  | _ => 0

abbrev bufTy : (tb : Table) → Fin (tcTables nBuf tb) → BufTy
  | .hbm, ⟨0, _⟩ => ⟨S4x2048x768, .f32⟩
  | .hbm, ⟨1, _⟩ => ⟨S4x65, .f32⟩
  | .hbm, ⟨2, _⟩ => ⟨S833x256, .f32⟩
  | .hbm, ⟨3, _⟩ => ⟨S256, .f32⟩
  | .hbm, ⟨4, _⟩ => ⟨S256x8, .f32⟩
  | .hbm, ⟨5, _⟩ => ⟨S8, .f32⟩
  | .hbm, ⟨6, _⟩ => ⟨S8x768x128, .f32⟩
  | .hbm, ⟨7, _⟩ => ⟨S8x128, .f32⟩
  | .hbm, ⟨8, _⟩ => ⟨S4x1x65, .f32⟩
  | .hbm, ⟨9, _⟩ => ⟨S4x2048x65, .f32⟩
  | .hbm, ⟨10, _⟩ => ⟨S4x2048x833, .f32⟩
  | .hbm, ⟨11, _⟩ => ⟨S4x2048x256, .f32⟩
  | .hbm, ⟨12, _⟩ => ⟨S1x1x256, .f32⟩
  | .hbm, ⟨13, _⟩ => ⟨S4x2048x256, .f32⟩
  | .hbm, ⟨14, _⟩ => ⟨S4x2048x256, .f32⟩
  | .hbm, ⟨15, _⟩ => ⟨S4x2048x256, .f32⟩
  | .hbm, ⟨16, _⟩ => ⟨S4x2048x8, .f32⟩
  | .hbm, ⟨17, _⟩ => ⟨S1x1x8, .f32⟩
  | .hbm, ⟨18, _⟩ => ⟨S4x2048x8, .f32⟩
  | .hbm, ⟨19, _⟩ => ⟨S4x2048x8, .f32⟩
  | .hbm, ⟨20, _⟩ => ⟨S_, .f32⟩
  | .hbm, ⟨21, _⟩ => ⟨S4x2048, .f32⟩
  | .hbm, ⟨22, _⟩ => ⟨S_, .f32⟩
  | .hbm, ⟨23, _⟩ => ⟨S4x2048, .f32⟩
  | .hbm, ⟨24, _⟩ => ⟨S4x2048, .f32⟩
  | .hbm, ⟨25, _⟩ => ⟨S4x2048x1, .f32⟩
  | .hbm, ⟨26, _⟩ => ⟨S4x2048x8, .f32⟩
  | .hbm, ⟨27, _⟩ => ⟨S4x2048x8, .f32⟩
  | .hbm, ⟨28, _⟩ => ⟨S4x2048x8, .f32⟩
  | .hbm, ⟨29, _⟩ => ⟨S_, .f32⟩
  | .hbm, ⟨30, _⟩ => ⟨S4x2048, .f32⟩
  | .hbm, ⟨31, _⟩ => ⟨S4x2048x1, .f32⟩
  | .hbm, ⟨32, _⟩ => ⟨S4x2048x1, .f32⟩
  | .hbm, ⟨33, _⟩ => ⟨S4x2048x8, .f32⟩
  | .hbm, ⟨34, _⟩ => ⟨S4x2048x8, .f32⟩
  | .hbm, ⟨35, _⟩ => ⟨S4x2048x8, .i32⟩
  | .hbm, ⟨36, _⟩ => ⟨S_, .f32⟩
  | .hbm, ⟨37, _⟩ => ⟨S_, .i32⟩
  | .hbm, ⟨38, _⟩ => ⟨S4x2048, .f32⟩
  | .hbm, ⟨39, _⟩ => ⟨S4x2048, .i32⟩
  | .hbm, ⟨40, _⟩ => ⟨S4x2048x1, .i32⟩
  | .hbm, ⟨41, _⟩ => ⟨S_, .i32⟩
  | .hbm, ⟨42, _⟩ => ⟨S4x2048x1, .i32⟩
  | .hbm, ⟨43, _⟩ => ⟨S4x2048x1, .i1⟩
  | .hbm, ⟨44, _⟩ => ⟨S_, .i32⟩
  | .hbm, ⟨45, _⟩ => ⟨S4x2048x1, .i32⟩
  | .hbm, ⟨46, _⟩ => ⟨S4x2048x1, .i32⟩
  | .hbm, ⟨47, _⟩ => ⟨S4x2048x1, .i32⟩
  | .hbm, ⟨48, _⟩ => ⟨S4x2048x1x1, .i32⟩
  | .hbm, ⟨49, _⟩ => ⟨S1, .i32⟩
  | .hbm, ⟨50, _⟩ => ⟨S_, .i32⟩
  | .hbm, ⟨51, _⟩ => ⟨S4x2048x1x1, .i32⟩
  | .hbm, ⟨52, _⟩ => ⟨S4x2048x1x1, .i1⟩
  | .hbm, ⟨53, _⟩ => ⟨S1x1x1x1, .i32⟩
  | .hbm, ⟨54, _⟩ => ⟨S4x2048x1x1, .i32⟩
  | .hbm, ⟨55, _⟩ => ⟨S4x2048x1x1, .i1⟩
  | .hbm, ⟨56, _⟩ => ⟨S4x2048x1x1, .i1⟩
  | .hbm, ⟨57, _⟩ => ⟨S_, .i1⟩
  | .hbm, ⟨58, _⟩ => ⟨S4x2048x1, .i1⟩
  | .hbm, ⟨59, _⟩ => ⟨S4x2048x1, .f32⟩
  | .hbm, ⟨60, _⟩ => ⟨S_, .f32⟩
  | .hbm, ⟨61, _⟩ => ⟨S4x2048x1, .f32⟩
  | .hbm, ⟨62, _⟩ => ⟨S4x2048x1, .f32⟩
  | .hbm, ⟨63, _⟩ => ⟨S4x2048, .f32⟩
  | .hbm, ⟨64, _⟩ => ⟨S_, .i32⟩
  | .hbm, ⟨65, _⟩ => ⟨S4x2048, .i32⟩
  | .hbm, ⟨66, _⟩ => ⟨S4x2048, .i1⟩
  | .hbm, ⟨67, _⟩ => ⟨S_, .i32⟩
  | .hbm, ⟨68, _⟩ => ⟨S4x2048, .i32⟩
  | .hbm, ⟨69, _⟩ => ⟨S4x2048, .i32⟩
  | .hbm, ⟨70, _⟩ => ⟨S4x2048, .i32⟩
  | .hbm, ⟨71, _⟩ => ⟨S4x2048x1, .i32⟩
  | .hbm, ⟨72, _⟩ => ⟨S1, .i32⟩
  | .hbm, ⟨73, _⟩ => ⟨S_, .i32⟩
  | .hbm, ⟨74, _⟩ => ⟨S4x2048x1, .i32⟩
  | .hbm, ⟨75, _⟩ => ⟨S4x2048x1, .i1⟩
  | .hbm, ⟨76, _⟩ => ⟨S1x1x1, .i32⟩
  | .hbm, ⟨77, _⟩ => ⟨S4x2048x1, .i32⟩
  | .hbm, ⟨78, _⟩ => ⟨S4x2048x1, .i1⟩
  | .hbm, ⟨79, _⟩ => ⟨S4x2048x1, .i1⟩
  | .hbm, ⟨80, _⟩ => ⟨S_, .i1⟩
  | .hbm, ⟨81, _⟩ => ⟨S4x2048, .i1⟩
  | .hbm, ⟨82, _⟩ => ⟨S4x2048x768x128, .f32⟩
  | .hbm, ⟨83, _⟩ => ⟨S4x2048x768x128, .i1⟩
  | .hbm, ⟨84, _⟩ => ⟨S_, .f32⟩
  | .hbm, ⟨85, _⟩ => ⟨S4x2048x768x128, .f32⟩
  | .hbm, ⟨86, _⟩ => ⟨S4x2048x768x128, .f32⟩
  | .hbm, ⟨87, _⟩ => ⟨S_, .i32⟩
  | .hbm, ⟨88, _⟩ => ⟨S4x2048, .i32⟩
  | .hbm, ⟨89, _⟩ => ⟨S4x2048, .i1⟩
  | .hbm, ⟨90, _⟩ => ⟨S_, .i32⟩
  | .hbm, ⟨91, _⟩ => ⟨S4x2048, .i32⟩
  | .hbm, ⟨92, _⟩ => ⟨S4x2048, .i32⟩
  | .hbm, ⟨93, _⟩ => ⟨S4x2048, .i32⟩
  | .hbm, ⟨94, _⟩ => ⟨S4x2048x1, .i32⟩
  | .hbm, ⟨95, _⟩ => ⟨S1, .i32⟩
  | .hbm, ⟨96, _⟩ => ⟨S_, .i32⟩
  | .hbm, ⟨97, _⟩ => ⟨S4x2048x1, .i32⟩
  | .hbm, ⟨98, _⟩ => ⟨S4x2048x1, .i1⟩
  | .hbm, ⟨99, _⟩ => ⟨S1x1x1, .i32⟩
  | .hbm, ⟨100, _⟩ => ⟨S4x2048x1, .i32⟩
  | .hbm, ⟨101, _⟩ => ⟨S4x2048x1, .i1⟩
  | .hbm, ⟨102, _⟩ => ⟨S4x2048x1, .i1⟩
  | .hbm, ⟨103, _⟩ => ⟨S_, .i1⟩
  | .hbm, ⟨104, _⟩ => ⟨S4x2048, .i1⟩
  | .hbm, ⟨105, _⟩ => ⟨S4x2048x128, .f32⟩
  | .hbm, ⟨106, _⟩ => ⟨S4x2048x128, .i1⟩
  | .hbm, ⟨107, _⟩ => ⟨S_, .f32⟩
  | .hbm, ⟨108, _⟩ => ⟨S4x2048x128, .f32⟩
  | .hbm, ⟨109, _⟩ => ⟨S4x2048x128, .f32⟩
  | .hbm, ⟨110, _⟩ => ⟨S4x2048x128, .f32⟩
  | .hbm, ⟨111, _⟩ => ⟨S4x2048x128, .f32⟩
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_cst : Ref sig .tc := ⟨.hbm, 20, rfl⟩
abbrev main_call0_v0 : Ref sig .tc := ⟨.hbm, 21, rfl⟩
abbrev main_call0_cst_0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_cst_1 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_v12 : Ref sig .tc := ⟨.hbm, 34, rfl⟩
abbrev main_call1_v0 : Ref sig .tc := ⟨.hbm, 35, rfl⟩
abbrev main_call1_cst : Ref sig .tc := ⟨.hbm, 36, rfl⟩
abbrev main_call1_c : Ref sig .tc := ⟨.hbm, 37, rfl⟩
abbrev main_call1_v1_0 : Ref sig .tc := ⟨.hbm, 38, rfl⟩
abbrev main_v13 : Ref sig .tc := ⟨.hbm, 39, rfl⟩
abbrev main_v14 : Ref sig .tc := ⟨.hbm, 40, rfl⟩
abbrev main_call2_c : Ref sig .tc := ⟨.hbm, 41, rfl⟩
abbrev main_call2_v0 : Ref sig .tc := ⟨.hbm, 42, rfl⟩
abbrev main_call2_v1 : Ref sig .tc := ⟨.hbm, 43, rfl⟩
abbrev main_call2_c_0 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_v5 : Ref sig .tc := ⟨.hbm, 48, rfl⟩
abbrev main_call2_c_1 : Ref sig .tc := ⟨.hbm, 49, rfl⟩
abbrev main_call2_c_2 : Ref sig .tc := ⟨.hbm, 50, rfl⟩
abbrev main_call2_v6 : Ref sig .tc := ⟨.hbm, 51, rfl⟩
abbrev main_call2_v7 : Ref sig .tc := ⟨.hbm, 52, rfl⟩
abbrev main_call2_v8 : Ref sig .tc := ⟨.hbm, 53, rfl⟩
abbrev main_call2_v9 : Ref sig .tc := ⟨.hbm, 54, rfl⟩
abbrev main_call2_v10 : Ref sig .tc := ⟨.hbm, 55, rfl⟩
abbrev main_call2_v11 : Ref sig .tc := ⟨.hbm, 56, rfl⟩
abbrev main_call2_c_3 : Ref sig .tc := ⟨.hbm, 57, rfl⟩
abbrev main_call2_v12 : Ref sig .tc := ⟨.hbm, 58, rfl⟩
abbrev main_call2_v13 : Ref sig .tc := ⟨.hbm, 59, rfl⟩
abbrev main_call2_cst : Ref sig .tc := ⟨.hbm, 60, rfl⟩
abbrev main_call2_v14 : Ref sig .tc := ⟨.hbm, 61, rfl⟩
abbrev main_v15 : Ref sig .tc := ⟨.hbm, 62, rfl⟩
abbrev main_v16 : Ref sig .tc := ⟨.hbm, 63, rfl⟩
abbrev main_call3_c : Ref sig .tc := ⟨.hbm, 64, rfl⟩
abbrev main_call3_v0 : Ref sig .tc := ⟨.hbm, 65, rfl⟩
abbrev main_call3_v1 : Ref sig .tc := ⟨.hbm, 66, rfl⟩
abbrev main_call3_c_0 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_call3_v5 : Ref sig .tc := ⟨.hbm, 71, rfl⟩
abbrev main_call3_c_1 : Ref sig .tc := ⟨.hbm, 72, rfl⟩
abbrev main_call3_c_2 : Ref sig .tc := ⟨.hbm, 73, rfl⟩
abbrev main_call3_v6 : Ref sig .tc := ⟨.hbm, 74, rfl⟩
abbrev main_call3_v7 : Ref sig .tc := ⟨.hbm, 75, rfl⟩
abbrev main_call3_v8 : Ref sig .tc := ⟨.hbm, 76, rfl⟩
abbrev main_call3_v9 : Ref sig .tc := ⟨.hbm, 77, rfl⟩
abbrev main_call3_v10 : Ref sig .tc := ⟨.hbm, 78, rfl⟩
abbrev main_call3_v11 : Ref sig .tc := ⟨.hbm, 79, rfl⟩
abbrev main_call3_c_3 : Ref sig .tc := ⟨.hbm, 80, rfl⟩
abbrev main_call3_v12 : Ref sig .tc := ⟨.hbm, 81, rfl⟩
abbrev main_call3_v13 : Ref sig .tc := ⟨.hbm, 82, rfl⟩
abbrev main_call3_v14 : Ref sig .tc := ⟨.hbm, 83, rfl⟩
abbrev main_call3_cst : Ref sig .tc := ⟨.hbm, 84, rfl⟩
abbrev main_call3_v15 : Ref sig .tc := ⟨.hbm, 85, rfl⟩
abbrev main_v17 : Ref sig .tc := ⟨.hbm, 86, rfl⟩
abbrev main_call4_c : Ref sig .tc := ⟨.hbm, 87, rfl⟩
abbrev main_call4_v0 : Ref sig .tc := ⟨.hbm, 88, rfl⟩
abbrev main_call4_v1 : Ref sig .tc := ⟨.hbm, 89, rfl⟩
abbrev main_call4_c_0 : Ref sig .tc := ⟨.hbm, 90, rfl⟩
abbrev main_call4_v2 : Ref sig .tc := ⟨.hbm, 91, rfl⟩
abbrev main_call4_v3 : Ref sig .tc := ⟨.hbm, 92, rfl⟩
abbrev main_call4_v4 : Ref sig .tc := ⟨.hbm, 93, rfl⟩
abbrev main_call4_v5 : Ref sig .tc := ⟨.hbm, 94, rfl⟩
abbrev main_call4_c_1 : Ref sig .tc := ⟨.hbm, 95, rfl⟩
abbrev main_call4_c_2 : Ref sig .tc := ⟨.hbm, 96, rfl⟩
abbrev main_call4_v6 : Ref sig .tc := ⟨.hbm, 97, rfl⟩
abbrev main_call4_v7 : Ref sig .tc := ⟨.hbm, 98, rfl⟩
abbrev main_call4_v8 : Ref sig .tc := ⟨.hbm, 99, rfl⟩
abbrev main_call4_v9 : Ref sig .tc := ⟨.hbm, 100, rfl⟩
abbrev main_call4_v10 : Ref sig .tc := ⟨.hbm, 101, rfl⟩
abbrev main_call4_v11 : Ref sig .tc := ⟨.hbm, 102, rfl⟩
abbrev main_call4_c_3 : Ref sig .tc := ⟨.hbm, 103, rfl⟩
abbrev main_call4_v12 : Ref sig .tc := ⟨.hbm, 104, rfl⟩
abbrev main_call4_v13 : Ref sig .tc := ⟨.hbm, 105, rfl⟩
abbrev main_call4_v14 : Ref sig .tc := ⟨.hbm, 106, rfl⟩
abbrev main_call4_cst : Ref sig .tc := ⟨.hbm, 107, rfl⟩
abbrev main_call4_v15 : Ref sig .tc := ⟨.hbm, 108, rfl⟩
abbrev main_v18 : Ref sig .tc := ⟨.hbm, 109, rfl⟩
abbrev main_v19 : Ref sig .tc := ⟨.hbm, 110, rfl⟩
abbrev main_v20 : Ref sig .tc := ⟨.hbm, 111, rfl⟩

abbrev nD : Nat := 1
abbrev τ : Topo := Topo.v7x

variable {F : FTy → Type} [FloatOps F]
-- ==== Proof.RefRun.lean ====
/-
  THE REFERENCE'S RUN.

  The reference is host operations only: its router's logits, their log-softmax, their arg-max, the log-probability taken at
  the arg-max, the expert's weights and bias taken at the arg-max, and the product. Each of these stretches is listed here
  as the operations it runs; the program is their concatenation, and its run leaves in every buffer what the list leaves.
-/
module

public import proofs.«01_k».proof.Proof.Gen.ReferenceIdeal
public import Idealize.ShloMosaic.Lib.StableHlo.Run
public import Idealize.ShloMosaic.Lib.StableHlo.RunRead
public import Idealize.ShloMosaic.Lib.Pipeline.Frame

@[expose] public section

noncomputable section

namespace Cert.Moe.Ref

open Cert.ReferenceIdeal Cert.ReferenceIdeal.Gen Idealize.ShloMosaic Idealize.ShloMosaic.TcCoe Idealize.SL.Sem
open Idealize.ShloMosaic.StableHlo

variable {F : FTy → Type} [FloatOps F]

/-- The hidden state beside its batch's typo vector. -/
def beside (a : (⟨S4x2048x768, .f32⟩ : BufTy).Contents (Elt F)) (b : (⟨S4x2048x65, .f32⟩ : BufTy).Contents (Elt F)) :
    (⟨S4x2048x833, .f32⟩ : BufTy).Contents (Elt F) :=
  concatenate S4x2048x833 2 [⟨S4x2048x768, a⟩, ⟨S4x2048x65, b⟩] concatenates_S4x2048x768_S4x2048x65_S4x2048x833_d2

/-! ## The stretches of operations -/

/-- The router's logits. -/
abbrev logitOps : List (HloOp τ sig (Elt F)) :=
  [ unary main_arg1 main_v0 (broadcastInDim S4x1x65 ![0, 2] bcast_S4x65_S4x1x65_0_2),
    unary main_v0 main_v1 (broadcastInDim S4x2048x65 ![0, 1, 2] bcast_S4x1x65_S4x2048x65_0_1_2),
    binary main_arg0 main_v1 main_v2 beside,
    binary main_v2 main_arg2 main_v3 (fun l r => Host.dotGeneral dot_S4x2048x833_S833x256_S4x2048x256_2_0_01_1_n_n none l r),
    unary main_arg3 main_v4 (broadcastInDim S1x1x256 ![2] bcast_S256_S1x1x256_2),
    unary main_v4 main_v5 (broadcastInDim S4x2048x256 ![0, 1, 2] bcast_S1x1x256_S4x2048x256_0_1_2),
    binary main_v3 main_v5 main_v6 addf,
    unary main_v6 main_v7 Host.tanh,
    binary main_v7 main_arg4 main_v8 (fun l r => Host.dotGeneral dot_S4x2048x256_S256x8_S4x2048x8_2_0_01_1_n_n none l r),
    unary main_arg5 main_v9 (broadcastInDim S1x1x8 ![2] bcast_S8_S1x1x8_2),
    unary main_v9 main_v10 (broadcastInDim S4x2048x8 ![0, 1, 2] bcast_S1x1x8_S4x2048x8_0_1_2),
    binary main_v8 main_v10 main_v11 addf ]

/-- The log-softmax over the eight logits, from the buffer of the logits. -/
abbrev softmaxOps (arg0 : TRef sig ⟨S4x2048x8, .f32⟩) (φ : fn_log_softmax.Bufs) : List (HloOp τ sig (Elt F)) :=
  [ TRef.nullary φ.cst (constant S_ .f32 0xFF800000#32),
    TRef.binary arg0 φ.cst φ.v0 (fun x v => Host.reduce FloatOps.maximumf x v reducesTo_S4x2048x8_S4x2048_d2 h_S_),
    TRef.nullary φ.cst_0 (constant S_ .f32 0xFF800000#32),
    TRef.unary φ.cst_0 φ.v1 (broadcastInDim S4x2048 ![] bcast_S_S4x2048),
    TRef.binary φ.v1 φ.v0 φ.v2 maximumf,
    TRef.unary φ.v2 φ.v3 (broadcastInDim S4x2048x1 ![0, 1] bcast_S4x2048_S4x2048x1_0_1),
    TRef.unary φ.v3 φ.v4 (broadcastInDim S4x2048x8 ![0, 1, 2] bcast_S4x2048x1_S4x2048x8_0_1_2),
    TRef.binary arg0 φ.v4 φ.v5 subf,
    TRef.unary φ.v5 φ.v6 Host.exp,
    TRef.nullary φ.cst_1 (constant S_ .f32 0x00000000#32),
    TRef.binary φ.v6 φ.cst_1 φ.v7 (fun x v => Host.reduceAdd x v reducesTo_S4x2048x8_S4x2048_d2 h_S_),
    TRef.unary φ.v7 φ.v8 (broadcastInDim S4x2048x1 ![0, 1] bcast_S4x2048_S4x2048x1_0_1),
    TRef.unary φ.v8 φ.v9 Host.log,
    TRef.unary φ.v9 φ.v10 (broadcastInDim S4x2048x8 ![0, 1, 2] bcast_S4x2048x1_S4x2048x8_0_1_2),
    TRef.binary φ.v5 φ.v10 φ.v11 subf ]

/-- The arg-max over the eight logits. -/
abbrev argmaxOps (arg0 : TRef sig ⟨S4x2048x8, .f32⟩) (φ : fn_argmax.Bufs) : List (HloOp τ sig (Elt F)) :=
  [ TRef.nullary φ.v0 (iotaInDim S4x2048x8 32 2),
    TRef.nullary φ.cst (constant S_ .f32 0xFF800000#32),
    TRef.nullary φ.c (constantI S_ 32 0#32),
    TRef.quaternary arg0 φ.v0 φ.cst φ.c φ.v1_0 (fun x y u v j => (Host.argReduce reducer_argmax_f32_i32 x y u v reducesTo_S4x2048x8_S4x2048_d2 h_S_ j).1),
    TRef.quaternary arg0 φ.v0 φ.cst φ.c φ.v1_1 (fun x y u v j => (Host.argReduce reducer_argmax_f32_i32 x y u v reducesTo_S4x2048x8_S4x2048_d2 h_S_ j).2) ]

/-- The arg-max kept as a column. -/
abbrev columnOps : List (HloOp τ sig (Elt F)) :=
  [ unary main_v13 main_v14 (broadcastInDim S4x2048x1 ![0, 1] bcast_S4x2048_S4x2048x1_0_1) ]

/-- The entry of each row that an index column names. -/
abbrev alongOps (arg0 : TRef sig ⟨S4x2048x8, .f32⟩) (arg1 : TRef sig ⟨S4x2048x1, .i32⟩) (φ : fn_take_along_axis.Bufs) :
    List (HloOp τ sig (Elt F)) :=
  [ TRef.nullary φ.c (constantI S_ 32 0#32),
    TRef.unary φ.c φ.v0 (broadcastInDim S4x2048x1 ![] bcast_S_S4x2048x1),
    TRef.binary arg1 φ.v0 φ.v1 (cmpi .slt),
    TRef.nullary φ.c_0 (constantI S_ 32 8#32),
    TRef.unary φ.c_0 φ.v2 (broadcastInDim S4x2048x1 ![] bcast_S_S4x2048x1),
    TRef.binary arg1 φ.v2 φ.v3 addi,
    TRef.ternary φ.v1 φ.v3 arg1 φ.v4 select,
    TRef.reshape φ.v4 φ.v5 (rfl : (.i32 : EltTy) = .i32) shapeCasts_S4x2048x1_S4x2048x1x1,
    TRef.nullary φ.c_1 (constantI S1 32 7#32),
    TRef.nullary φ.c_2 (constantI S_ 32 0#32),
    TRef.unary φ.c_2 φ.v6 (broadcastInDim S4x2048x1x1 ![] bcast_S_S4x2048x1x1),
    TRef.binary φ.v5 φ.v6 φ.v7 (cmpi .sge),
    TRef.unary φ.c_1 φ.v8 (broadcastInDim S1x1x1x1 ![3] bcast_S1_S1x1x1x1_3),
    TRef.unary φ.v8 φ.v9 (broadcastInDim S4x2048x1x1 ![0, 1, 2, 3] bcast_S1x1x1x1_S4x2048x1x1_0_1_2_3),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S4x2048x1x1_S4x2048x1_d3 h_S_),
    TRef.binary arg0 φ.v5 φ.v13 (fun x i => Host.gather gather_S4x2048x8_S4x2048x1x1_S4x2048x1_n_2_01_01_2_3_111 x i),
    TRef.nullary φ.cst (constant S_ .f32 0x7FC00000#32),
    TRef.unary φ.cst φ.v14 (broadcastInDim S4x2048x1 ![] bcast_S_S4x2048x1),
    TRef.ternary φ.v12 φ.v13 φ.v14 φ.v15 select ]

/-- Its column squeezed away. -/
abbrev squeezeOps : List (HloOp τ sig (Elt F)) :=
  [ reshape main_v15 main_v16 (rfl : (.f32 : EltTy) = .f32) shapeCasts_S4x2048x1_S4x2048 ]

/-- The experts' weights taken at an index array. -/
abbrev weightOps (arg0 : TRef sig ⟨S8x768x128, .f32⟩) (arg1 : TRef sig ⟨S4x2048, .i32⟩) (φ : fn_take.Bufs) :
    List (HloOp τ sig (Elt F)) :=
  [ TRef.nullary φ.c (constantI S_ 32 0#32),
    TRef.unary φ.c φ.v0 (broadcastInDim S4x2048 ![] bcast_S_S4x2048),
    TRef.binary arg1 φ.v0 φ.v1 (cmpi .slt),
    TRef.nullary φ.c_0 (constantI S_ 32 8#32),
    TRef.unary φ.c_0 φ.v2 (broadcastInDim S4x2048 ![] bcast_S_S4x2048),
    TRef.binary arg1 φ.v2 φ.v3 addi,
    TRef.ternary φ.v1 φ.v3 arg1 φ.call0.v0 select,
    TRef.unary φ.call0.v0 φ.v5 (broadcastInDim S4x2048x1 ![0, 1] bcast_S4x2048_S4x2048x1_0_1),
    TRef.nullary φ.c_1 (constantI S1 32 7#32),
    TRef.nullary φ.c_2 (constantI S_ 32 0#32),
    TRef.unary φ.c_2 φ.v6 (broadcastInDim S4x2048x1 ![] bcast_S_S4x2048x1),
    TRef.binary φ.v5 φ.v6 φ.v7 (cmpi .sge),
    TRef.unary φ.c_1 φ.v8 (broadcastInDim S1x1x1 ![2] bcast_S1_S1x1x1_2),
    TRef.unary φ.v8 φ.v9 (broadcastInDim S4x2048x1 ![0, 1, 2] bcast_S1x1x1_S4x2048x1_0_1_2),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S4x2048x1_S4x2048_d2 h_S_),
    TRef.binary arg0 φ.v5 φ.v13 (fun x i => Host.gather gather_S8x768x128_S4x2048x1_S4x2048x768x128_23_0_n_n_0_2_1768128 x i),
    TRef.unary φ.v12 φ.v14 (broadcastInDim S4x2048x768x128 ![0, 1] bcast_S4x2048_S4x2048x768x128_0_1),
    TRef.nullary φ.cst (constant S_ .f32 0x7FC00000#32),
    TRef.unary φ.cst φ.v15 (broadcastInDim S4x2048x768x128 ![] bcast_S_S4x2048x768x128),
    TRef.ternary φ.v14 φ.v13 φ.v15 φ.v16 select ]

/-- The experts' biases taken at an index array. -/
abbrev biasOps (arg0 : TRef sig ⟨S8x128, .f32⟩) (arg1 : TRef sig ⟨S4x2048, .i32⟩) (φ : fn_take_0.Bufs) :
    List (HloOp τ sig (Elt F)) :=
  [ TRef.nullary φ.c (constantI S_ 32 0#32),
    TRef.unary φ.c φ.v0 (broadcastInDim S4x2048 ![] bcast_S_S4x2048),
    TRef.binary arg1 φ.v0 φ.v1 (cmpi .slt),
    TRef.nullary φ.c_0 (constantI S_ 32 8#32),
    TRef.unary φ.c_0 φ.v2 (broadcastInDim S4x2048 ![] bcast_S_S4x2048),
    TRef.binary arg1 φ.v2 φ.v3 addi,
    TRef.ternary φ.v1 φ.v3 arg1 φ.call0.v0 select,
    TRef.unary φ.call0.v0 φ.v5 (broadcastInDim S4x2048x1 ![0, 1] bcast_S4x2048_S4x2048x1_0_1),
    TRef.nullary φ.c_1 (constantI S1 32 7#32),
    TRef.nullary φ.c_2 (constantI S_ 32 0#32),
    TRef.unary φ.c_2 φ.v6 (broadcastInDim S4x2048x1 ![] bcast_S_S4x2048x1),
    TRef.binary φ.v5 φ.v6 φ.v7 (cmpi .sge),
    TRef.unary φ.c_1 φ.v8 (broadcastInDim S1x1x1 ![2] bcast_S1_S1x1x1_2),
    TRef.unary φ.v8 φ.v9 (broadcastInDim S4x2048x1 ![0, 1, 2] bcast_S1x1x1_S4x2048x1_0_1_2),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S4x2048x1_S4x2048_d2 h_S_),
    TRef.binary arg0 φ.v5 φ.v13 (fun x i => Host.gather gather_S8x128_S4x2048x1_S4x2048x128_2_0_n_n_0_2_1128 x i),
    TRef.unary φ.v12 φ.v14 (broadcastInDim S4x2048x128 ![0, 1] bcast_S4x2048_S4x2048x128_0_1),
    TRef.nullary φ.cst (constant S_ .f32 0x7FC00000#32),
    TRef.unary φ.cst φ.v15 (broadcastInDim S4x2048x128 ![] bcast_S_S4x2048x128),
    TRef.ternary φ.v14 φ.v13 φ.v15 φ.v16 select ]

/-- The hidden state times the taken weights, plus the taken biases. -/
abbrev productOps : List (HloOp τ sig (Elt F)) :=
  [ binary main_arg0 main_v17 main_v19 (fun l r => Host.dotGeneral dot_S4x2048x768_S4x2048x768x128_S4x2048x128_2_2_n_3_01_01 none l r),
    binary main_v19 main_v18 main_v20 addf ]

/-! ## The program is their concatenation -/

/-- All the program's operations, in order. -/
abbrev ops : List (HloOp τ sig (Elt F)) :=
  logitOps ++ (softmaxOps (.of main_v11) main_call0 ++ (argmaxOps (.of main_v11) main_call1 ++ (columnOps
    ++ (alongOps (.of main_v12) (.of main_v14) main_call2 ++ (squeezeOps ++ (weightOps (.of main_arg6) (.of main_v13) main_call3
    ++ (biasOps (.of main_arg7) (.of main_v13) main_call4 ++ productOps)))))))

set_option maxRecDepth 8192 in
set_option maxHeartbeats 4000000 in
/-- The program runs exactly these operations. -/
theorem main_eq (c : Dev nD) : main (F := F) c = seq ops := rfl

theorem no_scoped_refs : (Finset.univ.filter fun b : Ref sig .tc => b.isScoped) = ∅ := by decide
theorem no_scoped_sems : (Finset.univ.filter fun sm : SemLoc sig => sm.isScoped .tc) = ∅ := by decide

set_option maxHeartbeats 4000000 in
/-- Every operation touches the program's own arrays. -/
theorem ops_sub : (ops : List (HloOp τ sig (Elt F))).Forall fun op => op.bufs ⊆ tcRefs τ sig := by
  simp

set_option maxRecDepth 8192 in
set_option maxHeartbeats 4000000 in
/-- Every execution of the reference ends with each buffer at what the list of operations leaves in it. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq no_scoped_refs no_scoped_sems defs main (fun _ => ops) main_eq (fun _ => ops_sub) m ρ

end Cert.Moe.Ref

end

end
-- ==== Proof.RefRead.lean ====
/-
  WHAT THE REFERENCE'S BUFFERS HOLD.

  Each stretch of the reference (RefRun) is read here as one function of the arrays it starts from: the logits, the
  log-softmax, the arg-max, the entries taken at it, the product. `results` states the three results of the whole run.
-/
module

public import proofs.«01_k».proof.Proof.RefRun

@[expose] public section

noncomputable section

namespace Cert.Moe.Ref

open Cert.ReferenceIdeal Cert.ReferenceIdeal.Gen Idealize.ShloMosaic Idealize.ShloMosaic.TcCoe Idealize.SL.Sem
open Idealize.ShloMosaic.StableHlo

variable {F : FTy → Type} [FloatOps F]

/-! ## The functions -/

/-- The router's logits of every token. -/
def logits (hs : FVec F S4x2048x768 .f32) (tv : FVec F S4x65 .f32) (W1 : FVec F S833x256 .f32) (b1 : FVec F S256 .f32)
    (W2 : FVec F S256x8 .f32) (b2 : FVec F S8 .f32) : FVec F S4x2048x8 .f32 :=
  addf (Host.dotGeneral dot_S4x2048x256_S256x8_S4x2048x8_2_0_01_1_n_n none
      (Host.tanh (addf (Host.dotGeneral dot_S4x2048x833_S833x256_S4x2048x256_2_0_01_1_n_n none
          (beside hs (broadcastInDim S4x2048x65 ![0, 1, 2] bcast_S4x1x65_S4x2048x65_0_1_2
            (broadcastInDim S4x1x65 ![0, 2] bcast_S4x65_S4x1x65_0_2 tv))) W1)
        (broadcastInDim S4x2048x256 ![0, 1, 2] bcast_S1x1x256_S4x2048x256_0_1_2
          (broadcastInDim S1x1x256 ![2] bcast_S256_S1x1x256_2 b1)))) W2)
    (broadcastInDim S4x2048x8 ![0, 1, 2] bcast_S1x1x8_S4x2048x8_0_1_2 (broadcastInDim S1x1x8 ![2] bcast_S8_S1x1x8_2 b2))

/-- The logits less their row's largest. -/
def shifted (l : FVec F S4x2048x8 .f32) : FVec F S4x2048x8 .f32 :=
  subf l (broadcastInDim S4x2048x8 ![0, 1, 2] bcast_S4x2048x1_S4x2048x8_0_1_2
    (broadcastInDim S4x2048x1 ![0, 1] bcast_S4x2048_S4x2048x1_0_1
      (maximumf (broadcastInDim S4x2048 ![] bcast_S_S4x2048 (constant S_ .f32 0xFF800000#32))
        (Host.reduce FloatOps.maximumf l (constant S_ .f32 0xFF800000#32) reducesTo_S4x2048x8_S4x2048_d2 h_S_))))

/-- The log-softmax of the logits. -/
def logSoftmax (l : FVec F S4x2048x8 .f32) : FVec F S4x2048x8 .f32 :=
  subf (shifted l) (broadcastInDim S4x2048x8 ![0, 1, 2] bcast_S4x2048x1_S4x2048x8_0_1_2
    (Host.log (broadcastInDim S4x2048x1 ![0, 1] bcast_S4x2048_S4x2048x1_0_1
      (Host.reduceAdd (Host.exp (shifted l)) (constant S_ .f32 0x00000000#32) reducesTo_S4x2048x8_S4x2048_d2 h_S_))))

/-- The arg-max of the logits. -/
def argMax (l : FVec F S4x2048x8 .f32) : IVec S4x2048 32 := fun j =>
  (Host.argReduce reducer_argmax_f32_i32 l (iotaInDim S4x2048x8 32 2) (constant S_ .f32 0xFF800000#32)
    (constantI S_ 32 0#32) reducesTo_S4x2048x8_S4x2048_d2 h_S_ j).2

/-- A column of indices, the negative ones counted from the end, as start indices. -/
def alongIdx (i : IVec S4x2048x1 32) : IVec S4x2048x1x1 32 :=
  shapeCast S4x2048x1x1 (select (cmpi .slt i (broadcastInDim S4x2048x1 ![] bcast_S_S4x2048x1 (constantI S_ 32 0#32)))
    (addi i (broadcastInDim S4x2048x1 ![] bcast_S_S4x2048x1 (constantI S_ 32 8#32))) i) shapeCasts_S4x2048x1_S4x2048x1x1

/-- Where the start indices name one of the eight entries. -/
def alongOk (i : IVec S4x2048x1x1 32) : IVec S4x2048x1 1 :=
  Host.reduce IntOp.andi
    (andi (cmpi .sge i (broadcastInDim S4x2048x1x1 ![] bcast_S_S4x2048x1x1 (constantI S_ 32 0#32)))
      (cmpi .sle i (broadcastInDim S4x2048x1x1 ![0, 1, 2, 3] bcast_S1x1x1x1_S4x2048x1x1_0_1_2_3
        (broadcastInDim S1x1x1x1 ![3] bcast_S1_S1x1x1x1_3 (constantI S1 32 7#32)))))
    (constantI S_ 1 1#1) reducesTo_S4x2048x1x1_S4x2048x1_d3 h_S_

/-- Each row's entry at its index. -/
def along (x : FVec F S4x2048x8 .f32) (i : IVec S4x2048x1 32) : FVec F S4x2048x1 .f32 :=
  select (alongOk (alongIdx i)) (Host.gather gather_S4x2048x8_S4x2048x1x1_S4x2048x1_n_2_01_01_2_3_111 x (alongIdx i))
    (broadcastInDim S4x2048x1 ![] bcast_S_S4x2048x1 (constant S_ .f32 0x7FC00000#32))

/-- An array of indices, the negative ones counted from the end, as start indices. -/
def rowIdx (a : IVec S4x2048 32) : IVec S4x2048x1 32 :=
  broadcastInDim S4x2048x1 ![0, 1] bcast_S4x2048_S4x2048x1_0_1
    (select (cmpi .slt a (broadcastInDim S4x2048 ![] bcast_S_S4x2048 (constantI S_ 32 0#32)))
      (addi a (broadcastInDim S4x2048 ![] bcast_S_S4x2048 (constantI S_ 32 8#32))) a)

/-- Where the start indices name one of the eight experts. -/
def rowOk (i : IVec S4x2048x1 32) : IVec S4x2048 1 :=
  Host.reduce IntOp.andi
    (andi (cmpi .sge i (broadcastInDim S4x2048x1 ![] bcast_S_S4x2048x1 (constantI S_ 32 0#32)))
      (cmpi .sle i (broadcastInDim S4x2048x1 ![0, 1, 2] bcast_S1x1x1_S4x2048x1_0_1_2
        (broadcastInDim S1x1x1 ![2] bcast_S1_S1x1x1_2 (constantI S1 32 7#32)))))
    (constantI S_ 1 1#1) reducesTo_S4x2048x1_S4x2048_d2 h_S_

/-- Each token's expert's weights. -/
def weights (We : FVec F S8x768x128 .f32) (a : IVec S4x2048 32) : FVec F S4x2048x768x128 .f32 :=
  select (broadcastInDim S4x2048x768x128 ![0, 1] bcast_S4x2048_S4x2048x768x128_0_1 (rowOk (rowIdx a)))
    (Host.gather gather_S8x768x128_S4x2048x1_S4x2048x768x128_23_0_n_n_0_2_1768128 We (rowIdx a))
    (broadcastInDim S4x2048x768x128 ![] bcast_S_S4x2048x768x128 (constant S_ .f32 0x7FC00000#32))

/-- Each token's expert's biases. -/
def biases (be : FVec F S8x128 .f32) (a : IVec S4x2048 32) : FVec F S4x2048x128 .f32 :=
  select (broadcastInDim S4x2048x128 ![0, 1] bcast_S4x2048_S4x2048x128_0_1 (rowOk (rowIdx a)))
    (Host.gather gather_S8x128_S4x2048x1_S4x2048x128_2_0_n_n_0_2_1128 be (rowIdx a))
    (broadcastInDim S4x2048x128 ![] bcast_S_S4x2048x128 (constant S_ .f32 0x7FC00000#32))

/-- Each token's hidden state times its weights, plus its biases. -/
def product (hs : FVec F S4x2048x768 .f32) (w : FVec F S4x2048x768x128 .f32) (b : FVec F S4x2048x128 .f32) :
    FVec F S4x2048x128 .f32 :=
  addf (Host.dotGeneral dot_S4x2048x768_S4x2048x768x128_S4x2048x128_2_2_n_3_01_01 none hs w) b

/-! ## Each stretch, read -/

section Stretches

variable (V : Valuation τ sig (Elt F))

/-- The first stretch leaves the router's logits of the arguments. -/
theorem logits_read : after logitOps V (Proc.devRef .tc main_v11)
    = logits (V (Proc.devRef .tc main_arg0)) (V (Proc.devRef .tc main_arg1)) (V (Proc.devRef .tc main_arg2))
        (V (Proc.devRef .tc main_arg3)) (V (Proc.devRef .tc main_arg4)) (V (Proc.devRef .tc main_arg5)) := by
  after_reads_simp
  rfl

/-- The next leaves their log-softmax. -/
theorem softmax_read : after (softmaxOps (.of main_v11) main_call0) V (Proc.devRef .tc main_v12)
    = logSoftmax (V (Proc.devRef .tc main_v11)) := by
  simp only [softmaxOps, TRef.binary, TRef.nullary, TRef.reshape, TRef.ternary, TRef.unary, TRef.toBuf, TRef.ofBuf, cast_eq]
  after_results_simp
  rfl

/-- The next leaves their arg-max. -/
theorem argmax_read : after (argmaxOps (.of main_v11) main_call1) V (Proc.devRef .tc main_v13)
    = argMax (V (Proc.devRef .tc main_v11)) := by
  after_reads_simp
  rfl

/-- The indexing along the last axis leaves the named entry of each row. -/
theorem along_read : after (alongOps (.of main_v12) (.of main_v14) main_call2) V (Proc.devRef .tc main_v15)
    = along (V (Proc.devRef .tc main_v12)) (V (Proc.devRef .tc main_v14)) := by
  simp only [alongOps, TRef.binary, TRef.nullary, TRef.reshape, TRef.ternary, TRef.unary, TRef.toBuf, TRef.ofBuf, cast_eq]
  after_results_simp
  rfl

/-- The first gather leaves each token's expert weights. -/
theorem weights_read : after (weightOps (.of main_arg6) (.of main_v13) main_call3) V (Proc.devRef .tc main_v17)
    = weights (V (Proc.devRef .tc main_arg6)) (V (Proc.devRef .tc main_v13)) := by
  simp only [weightOps, TRef.binary, TRef.nullary, TRef.reshape, TRef.ternary, TRef.unary, TRef.toBuf, TRef.ofBuf, cast_eq]
  after_results_simp
  rfl

/-- The second gather leaves each token's expert biases. -/
theorem biases_read : after (biasOps (.of main_arg7) (.of main_v13) main_call4) V (Proc.devRef .tc main_v18)
    = biases (V (Proc.devRef .tc main_arg7)) (V (Proc.devRef .tc main_v13)) := by
  simp only [biasOps, TRef.binary, TRef.nullary, TRef.reshape, TRef.ternary, TRef.unary, TRef.toBuf, TRef.ofBuf, cast_eq]
  after_results_simp
  rfl

/-- The last stretch leaves the product plus the biases. -/
theorem product_read : after productOps V (Proc.devRef .tc main_v20)
    = product (V (Proc.devRef .tc main_arg0)) (V (Proc.devRef .tc main_v17)) (V (Proc.devRef .tc main_v18)) := by
  after_reads_simp
  rfl

/-- The arg-max is kept as a column. -/
theorem column_read : after columnOps V (Proc.devRef .tc main_v14)
    = broadcastInDim S4x2048x1 ![0, 1] bcast_S4x2048_S4x2048x1_0_1 (V (Proc.devRef .tc main_v13)) := by
  after_reads_simp

/-- The column of log-probabilities is squeezed. -/
theorem squeeze_read : after squeezeOps V (Proc.devRef .tc main_v16)
    = shapeCast S4x2048 (V (Proc.devRef .tc main_v15)) shapeCasts_S4x2048x1_S4x2048 := by
  after_reads_simp
  rfl

/-! ## What each stretch leaves alone -/

theorem logits_kept : after logitOps V (Proc.devRef .tc main_arg0) = V (Proc.devRef .tc main_arg0)
    ∧ after logitOps V (Proc.devRef .tc main_arg6) = V (Proc.devRef .tc main_arg6)
    ∧ after logitOps V (Proc.devRef .tc main_arg7) = V (Proc.devRef .tc main_arg7) := by
  refine ⟨?_, ?_, ?_⟩ <;> after_reads_simp

/-- The buffers that later stretches read from before this one are as they were. -/
theorem softmax_kept : after (softmaxOps (.of main_v11) main_call0) V (Proc.devRef .tc main_arg0) = V (Proc.devRef .tc main_arg0)
    ∧ after (softmaxOps (.of main_v11) main_call0) V (Proc.devRef .tc main_arg6) = V (Proc.devRef .tc main_arg6)
    ∧ after (softmaxOps (.of main_v11) main_call0) V (Proc.devRef .tc main_arg7) = V (Proc.devRef .tc main_arg7)
    ∧ after (softmaxOps (.of main_v11) main_call0) V (Proc.devRef .tc main_v11) = V (Proc.devRef .tc main_v11) := by
  refine ⟨?_, ?_, ?_, ?_⟩ <;> after_reads_simp

/-- The buffers that later stretches read from before this one are as they were. -/
theorem argmax_kept : after (argmaxOps (.of main_v11) main_call1) V (Proc.devRef .tc main_arg0) = V (Proc.devRef .tc main_arg0)
    ∧ after (argmaxOps (.of main_v11) main_call1) V (Proc.devRef .tc main_arg6) = V (Proc.devRef .tc main_arg6)
    ∧ after (argmaxOps (.of main_v11) main_call1) V (Proc.devRef .tc main_arg7) = V (Proc.devRef .tc main_arg7)
    ∧ after (argmaxOps (.of main_v11) main_call1) V (Proc.devRef .tc main_v12) = V (Proc.devRef .tc main_v12) := by
  refine ⟨?_, ?_, ?_, ?_⟩ <;> after_reads_simp

/-- The buffers that later stretches read from before this one are as they were. -/
theorem column_kept : after columnOps V (Proc.devRef .tc main_arg0) = V (Proc.devRef .tc main_arg0)
    ∧ after columnOps V (Proc.devRef .tc main_arg6) = V (Proc.devRef .tc main_arg6)
    ∧ after columnOps V (Proc.devRef .tc main_arg7) = V (Proc.devRef .tc main_arg7)
    ∧ after columnOps V (Proc.devRef .tc main_v12) = V (Proc.devRef .tc main_v12)
    ∧ after columnOps V (Proc.devRef .tc main_v13) = V (Proc.devRef .tc main_v13) := by
  refine ⟨?_, ?_, ?_, ?_, ?_⟩ <;> after_reads_simp

/-- The buffers that later stretches read from before this one are as they were. -/
theorem along_kept : after (alongOps (.of main_v12) (.of main_v14) main_call2) V (Proc.devRef .tc main_arg0) = V (Proc.devRef .tc main_arg0)
    ∧ after (alongOps (.of main_v12) (.of main_v14) main_call2) V (Proc.devRef .tc main_arg6) = V (Proc.devRef .tc main_arg6)
    ∧ after (alongOps (.of main_v12) (.of main_v14) main_call2) V (Proc.devRef .tc main_arg7) = V (Proc.devRef .tc main_arg7)
    ∧ after (alongOps (.of main_v12) (.of main_v14) main_call2) V (Proc.devRef .tc main_v13) = V (Proc.devRef .tc main_v13) := by
  refine ⟨?_, ?_, ?_, ?_⟩ <;> after_reads_simp

/-- The buffers that later stretches read from before this one are as they were. -/
theorem squeeze_kept : after squeezeOps V (Proc.devRef .tc main_arg0) = V (Proc.devRef .tc main_arg0)
    ∧ after squeezeOps V (Proc.devRef .tc main_arg6) = V (Proc.devRef .tc main_arg6)
    ∧ after squeezeOps V (Proc.devRef .tc main_arg7) = V (Proc.devRef .tc main_arg7)
    ∧ after squeezeOps V (Proc.devRef .tc main_v13) = V (Proc.devRef .tc main_v13) := by
  refine ⟨?_, ?_, ?_, ?_⟩ <;> after_reads_simp

/-- The buffers that later stretches read from before this one are as they were. -/
theorem weights_kept : after (weightOps (.of main_arg6) (.of main_v13) main_call3) V (Proc.devRef .tc main_arg0) = V (Proc.devRef .tc main_arg0)
    ∧ after (weightOps (.of main_arg6) (.of main_v13) main_call3) V (Proc.devRef .tc main_arg7) = V (Proc.devRef .tc main_arg7)
    ∧ after (weightOps (.of main_arg6) (.of main_v13) main_call3) V (Proc.devRef .tc main_v13) = V (Proc.devRef .tc main_v13)
    ∧ after (weightOps (.of main_arg6) (.of main_v13) main_call3) V (Proc.devRef .tc main_v16) = V (Proc.devRef .tc main_v16) := by
  refine ⟨?_, ?_, ?_, ?_⟩ <;> after_reads_simp

/-- The buffers that later stretches read from before this one are as they were. -/
theorem biases_kept : after (biasOps (.of main_arg7) (.of main_v13) main_call4) V (Proc.devRef .tc main_arg0) = V (Proc.devRef .tc main_arg0)
    ∧ after (biasOps (.of main_arg7) (.of main_v13) main_call4) V (Proc.devRef .tc main_v13) = V (Proc.devRef .tc main_v13)
    ∧ after (biasOps (.of main_arg7) (.of main_v13) main_call4) V (Proc.devRef .tc main_v16) = V (Proc.devRef .tc main_v16)
    ∧ after (biasOps (.of main_arg7) (.of main_v13) main_call4) V (Proc.devRef .tc main_v17) = V (Proc.devRef .tc main_v17) := by
  refine ⟨?_, ?_, ?_, ?_⟩ <;> after_reads_simp

/-- The buffers that later stretches read from before this one are as they were. -/
theorem product_kept : after productOps V (Proc.devRef .tc main_v13) = V (Proc.devRef .tc main_v13)
    ∧ after productOps V (Proc.devRef .tc main_v16) = V (Proc.devRef .tc main_v16) := by
  refine ⟨?_, ?_⟩ <;> after_reads_simp

end Stretches

/-! ## The whole run -/

/-- The reference's three results: the product with the chosen expert's weights and biases, the log-softmax entry at the
    arg-max, the arg-max. -/
theorem results (V : Valuation τ sig (Elt F)) :
    let l := logits (V (Proc.devRef .tc main_arg0)) (V (Proc.devRef .tc main_arg1)) (V (Proc.devRef .tc main_arg2))
        (V (Proc.devRef .tc main_arg3)) (V (Proc.devRef .tc main_arg4)) (V (Proc.devRef .tc main_arg5))
    after ops V (Proc.devRef .tc main_v20) = product (V (Proc.devRef .tc main_arg0))
        (weights (V (Proc.devRef .tc main_arg6)) (argMax l)) (biases (V (Proc.devRef .tc main_arg7)) (argMax l))
    ∧ after ops V (Proc.devRef .tc main_v16) = shapeCast S4x2048
        (along (logSoftmax l) (broadcastInDim S4x2048x1 ![0, 1] bcast_S4x2048_S4x2048x1_0_1 (argMax l)))
        shapeCasts_S4x2048x1_S4x2048
    ∧ after ops V (Proc.devRef .tc main_v13) = argMax l := by
  intro l
  simp only [ops, after_append]
  have r1 := logits_read V
  obtain ⟨k1arg0, k1arg6, k1arg7⟩ := logits_kept V
  generalize after logitOps V = V1 at *
  have r2 := softmax_read V1
  obtain ⟨k2arg0, k2arg6, k2arg7, k2v11⟩ := softmax_kept V1
  generalize after (softmaxOps (.of main_v11) main_call0) V1 = V2 at *
  have r3 := argmax_read V2
  obtain ⟨k3arg0, k3arg6, k3arg7, k3v12⟩ := argmax_kept V2
  generalize after (argmaxOps (.of main_v11) main_call1) V2 = V3 at *
  have r4 := column_read V3
  obtain ⟨k4arg0, k4arg6, k4arg7, k4v12, k4v13⟩ := column_kept V3
  generalize after columnOps V3 = V4 at *
  have r5 := along_read V4
  obtain ⟨k5arg0, k5arg6, k5arg7, k5v13⟩ := along_kept V4
  generalize after (alongOps (.of main_v12) (.of main_v14) main_call2) V4 = V5 at *
  have r6 := squeeze_read V5
  obtain ⟨k6arg0, k6arg6, k6arg7, k6v13⟩ := squeeze_kept V5
  generalize after squeezeOps V5 = V6 at *
  have r7 := weights_read V6
  obtain ⟨k7arg0, k7arg7, k7v13, k7v16⟩ := weights_kept V6
  generalize after (weightOps (.of main_arg6) (.of main_v13) main_call3) V6 = V7 at *
  have r8 := biases_read V7
  obtain ⟨k8arg0, k8v13, k8v16, k8v17⟩ := biases_kept V7
  generalize after (biasOps (.of main_arg7) (.of main_v13) main_call4) V7 = V8 at *
  have r9 := product_read V8
  obtain ⟨k9v13, k9v16⟩ := product_kept V8
  generalize after productOps V8 = V9 at *
  refine ⟨?_, ?_, ?_⟩
  · rw [r9, k8arg0, k7arg0, k6arg0, k5arg0, k4arg0, k3arg0, k2arg0, k1arg0, k8v17, r7, k6arg6, k5arg6, k4arg6, k3arg6, k2arg6,
      k1arg6, r8, k7arg7, k6arg7, k5arg7, k4arg7, k3arg7, k2arg7, k1arg7, k7v13, k6v13, k5v13, k4v13, r3, k2v11, r1]
  · rw [k9v16, k8v16, k7v16, r6, r5, k4v12, k3v12, r2, r4, r3, k2v11, r1]
  · rw [k9v13, k8v13, k7v13, k6v13, k5v13, k4v13, r3, k2v11, r1]

/-- No operation writes an argument: each ends as it was. -/
theorem args_read (V : Valuation τ sig (Elt F)) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4)
    ∧ after ops V (Proc.devRef .tc main_arg5) = V (Proc.devRef .tc main_arg5)
    ∧ after ops V (Proc.devRef .tc main_arg6) = V (Proc.devRef .tc main_arg6)
    ∧ after ops V (Proc.devRef .tc main_arg7) = V (Proc.devRef .tc main_arg7) := by
  refine ⟨?_, ?_, ?_, ?_, ?_, ?_, ?_, ?_⟩ <;> after_reads_simp

end Cert.Moe.Ref

end

end
-- ==== Proof.Router.lean ====
/-
  THE MATHEMATICS OF ONE TOKEN, over the extended reals.

  A token's router is a two-layer network on the token's hidden state beside its batch's typo vector; its eight logits
  name the expert (the first one of the largest logit) and its log-probability; the result is the named expert's linear
  layer on the hidden state. Both programs are read down to these functions.
-/
module

public import Idealize.ShloMosaic.Lib.Pointwise

@[expose] public section

noncomputable section

namespace Cert.Moe

open Idealize.ShloMosaic
open scoped BigOperators

/-- The pattern of minus infinity is the least extended real. -/
theorem ofBits_neg_inf : Ideal.ofBits FTy.f32 4286578688#32 = ⊥ := by
  simp [Ideal.ofBits, Ideal.ieee]

/-- The router's first layer: `tanh (r · W1 + b1)`, `r` the hidden state's 768 entries followed by the typo vector's 65. -/
def hid (x : Fin 768 → EReal) (tv : Fin 65 → EReal) (W1 : Fin 833 → Fin 256 → EReal) (b1 : Fin 256 → EReal)
    (j : Fin 256) : EReal :=
  Ideal.tanh ((∑ k : Fin 768, x k * W1 ⟨k.val, by omega⟩ j) + (∑ k : Fin 65, tv k * W1 ⟨768 + k.val, by omega⟩ j) + b1 j)

/-- The router's logits: `hid · W2 + b2`. -/
def logit (x : Fin 768 → EReal) (tv : Fin 65 → EReal) (W1 : Fin 833 → Fin 256 → EReal) (b1 : Fin 256 → EReal)
    (W2 : Fin 256 → Fin 8 → EReal) (b2 : Fin 8 → EReal) (e : Fin 8) : EReal :=
  (∑ j, hid x tv W1 b1 j * W2 j e) + b2 e

/-- The largest of eight logits. -/
def top (l : Fin 8 → EReal) : EReal := Finset.univ.fold max ⊥ l

/-- No logit is above the largest. -/
theorem le_top (l : Fin 8 → EReal) (e : Fin 8) : l e ≤ top l :=
  Finset.le_fold_max (l e) |>.mpr (Or.inr ⟨e, Finset.mem_univ e, le_rfl⟩)

/-- The largest is one of the logits. -/
theorem exists_eq_top (l : Fin 8 → EReal) : ∃ e, l e = top l := by
  obtain ⟨e, -, he⟩ := Finset.exists_max_image Finset.univ l ⟨0, Finset.mem_univ _⟩
  refine ⟨e, le_antisymm (le_top l e) ?_⟩
  exact (Finset.fold_max_le (l e)).mpr ⟨bot_le, fun k hk => he k hk⟩

/-- The chosen expert: the first index at which the logits reach their largest value. -/
def best (l : Fin 8 → EReal) : Fin 8 :=
  (Finset.univ.filter fun e => l e = top l).min' (by
    obtain ⟨e, he⟩ := exists_eq_top l
    exact ⟨e, Finset.mem_filter.mpr ⟨Finset.mem_univ e, he⟩⟩)

/-- The chosen expert's logit is the largest. -/
theorem best_eq (l : Fin 8 → EReal) : l (best l) = top l :=
  (Finset.mem_filter.mp (Finset.min'_mem (Finset.univ.filter fun e => l e = top l) _)).2

/-- And no earlier one is. -/
theorem best_le (l : Fin 8 → EReal) (e : Fin 8) (he : l e = top l) : best l ≤ e :=
  Finset.min'_le _ _ (Finset.mem_filter.mpr ⟨Finset.mem_univ e, he⟩)

/-- The two facts say which expert it is. -/
theorem best_unique (l : Fin 8 → EReal) (p : Fin 8) (hp : l p = top l) (hmin : ∀ e, l e = top l → p ≤ e) : best l = p :=
  le_antisymm (best_le l p hp) (hmin _ (best_eq l))

/-- Over the eight indices, the least word among "the index where the bit holds, else eight" is the first index of a
    held bit. -/
theorem minsi_first (b : Fin 8 → Bool) (p : Fin 8) (hp : b p = true) (hmin : ∀ e, b e = true → p ≤ e) :
    Finset.univ.fold IntOp.minsi 2147483647#32 (fun e : Fin 8 => if b e = true then BitVec.ofNat 32 e.val else 8#32)
      = BitVec.ofNat 32 p.val := by
  revert b p
  decide +kernel

/-- So the least column at which the logits reach their largest value, as a word, is the chosen expert's number. -/
theorem minsi_best (l : Fin 8 → EReal) :
    Finset.univ.fold IntOp.minsi 2147483647#32 (fun e : Fin 8 => if l e = top l then BitVec.ofNat 32 e.val else 8#32)
      = BitVec.ofNat 32 (best l).val := by
  have h := minsi_first (fun e => decide (l e = top l)) (best l) (by simpa using best_eq l)
    (fun e he => best_le l e (by simpa using he))
  simpa using h

/-- The sum of the exponentials of the logits less the largest. -/
def mass (l : Fin 8 → EReal) : EReal := ∑ e, Ideal.exp (l e - top l)

/-- One expert's linear layer on the hidden state. -/
def expert (x : Fin 768 → EReal) (We : Fin 8 → Fin 768 → Fin 128 → EReal) (be : Fin 8 → Fin 128 → EReal)
    (e : Fin 8) (n : Fin 128) : EReal :=
  (∑ h, x h * We e h n) + be e n

/-- A finite largest logit less itself is zero, so the chosen log-probability is minus the logarithm of the mass. -/
theorem chosen_logprob (l : Fin 8 → EReal) (hb : top l ≠ ⊥) (ht : top l ≠ ⊤) (s : EReal) :
    (l (best l) - top l) - s = 0 - s := by
  rw [best_eq l]
  generalize top l = t at hb ht
  induction t using EReal.rec with
  | bot => exact absurd rfl hb
  | top => exact absurd rfl ht
  | coe r => rw [← EReal.coe_sub, sub_self, EReal.coe_zero]

end Cert.Moe

end

end
-- ==== Proof.Block.lean ====
/-
  WHAT ONE BLOCK OF THE KERNEL COMPUTES.

  The kernel's body works on 2048 tokens of one batch. Row `r` of each vector it stores is read here as the functions of
  one token (Router): the chosen log-probability, the chosen expert's number, and that expert's linear layer.
-/
module

public import proofs.«01_k».proof.Proof.Router
public import proofs.«01_k».proof.Proof.Gen.KernelIdeal.Skeleton

@[expose] public section

noncomputable section

namespace Cert.Moe

open Idealize.ShloMosaic Cert.KernelIdeal Cert.KernelIdeal.Gen
open scoped BigOperators

section Router

variable (x : Vec Ideal S2048x768 .f32) (tv : Vec Ideal S1x1x65 .f32) (W1 : Vec Ideal S833x256 .f32)
  (b1 : Vec Ideal S1x256 .f32) (W2 : Vec Ideal S256x8 .f32) (b2 : Vec Ideal S1x8 .f32) (r : Fin 2048)

/-- The logits of row `r` of the block. -/
abbrev rowLogit : Fin 8 → EReal :=
  logit (fun k => x (ix2 r k)) (fun k => tv (ix3 0 0 k)) (fun k j => W1 (ix2 k j)) (fun j => b1 (ix2 0 j))
    (fun j e => W2 (ix2 j e)) (fun e => b2 (ix2 0 e))

/-- The block's logits, row by row. -/
theorem block_logits (e : Fin 8) : k0_pay3 x tv W1 b1 W2 b2 (ix2 r e) = rowLogit x tv W1 b1 W2 b2 r e := by
  pointwise [k0_pay3, k0_pay2]
  rfl

/-- The block's row maximum is the largest logit. -/
theorem fold_logits : Finset.fold max (Ideal.ofBits FTy.f32 4286578688#32)
    (fun e => k0_pay3 x tv W1 b1 W2 b2 (ix2 r e)) Finset.univ = top (rowLogit x tv W1 b1 W2 b2 r) := by
  rw [ofBits_neg_inf, show (fun e => k0_pay3 x tv W1 b1 W2 b2 (ix2 r e)) = rowLogit x tv W1 b1 W2 b2 r from
    funext fun e => block_logits x tv W1 b1 W2 b2 r e]
  rfl

/-- The block's log-probabilities: minus the logarithm of the mass. -/
theorem block_logprob (z : Fin 1) :
    k0_pay5 x tv W1 b1 W2 b2 (ix2 r z) = 0 - Ideal.log (mass (rowLogit x tv W1 b1 W2 b2 r)) := by
  pointwise [k0_pay5, k0_pay4]
  rw [fold_logits]
  simp only [block_logits]
  rfl

/-- The block's expert numbers: the first expert of the largest logit. -/
theorem block_action (z : Fin 1) :
    k0_pay6 x tv W1 b1 W2 b2 (ix2 r z) = BitVec.ofNat 32 (best (rowLogit x tv W1 b1 W2 b2 r)).val := by
  pointwise [k0_pay6, k0_pay4]
  rw [fold_logits]
  simp only [block_logits]
  exact minsi_best _

end Router

section Experts

variable (act : IVec S2048x1 32) (x : FVec Ideal S2048x768 .bf16) (W : Vec Ideal S768x1024 .bf16)
  (b : Vec Ideal S1x1024 .f32) (r : Fin 2048)

/-- All eight experts' layers side by side: column `c` of the block's wide product. -/
theorem block_wide (c : Fin 1024) :
    k0_pay8 x W b (ix2 r c) = (∑ h, x (ix2 r h) * W (ix2 h c)) + b (ix2 0 c) := by
  pointwise [k0_pay8]

/-- Of eight numbers, each kept where its index is the chosen word and zero elsewhere, the sum is the chosen one. -/
theorem one_hot_sum (p : Fin 8) (y : Fin 8 → EReal) :
    (((((((Scalar.select (IntOp.cmpi .eq (BitVec.ofNat 32 p.val) 0#32) (y 0) 0
      + Scalar.select (IntOp.cmpi .eq (BitVec.ofNat 32 p.val) 1#32) (y 1) 0)
      + Scalar.select (IntOp.cmpi .eq (BitVec.ofNat 32 p.val) 2#32) (y 2) 0)
      + Scalar.select (IntOp.cmpi .eq (BitVec.ofNat 32 p.val) 3#32) (y 3) 0)
      + Scalar.select (IntOp.cmpi .eq (BitVec.ofNat 32 p.val) 4#32) (y 4) 0)
      + Scalar.select (IntOp.cmpi .eq (BitVec.ofNat 32 p.val) 5#32) (y 5) 0)
      + Scalar.select (IntOp.cmpi .eq (BitVec.ofNat 32 p.val) 6#32) (y 6) 0)
      + Scalar.select (IntOp.cmpi .eq (BitVec.ofNat 32 p.val) 7#32) (y 7) 0) = y p := by
  fin_cases p <;> simp [Scalar.select, IntOp.cmpi]

/-- The block's result: the chosen expert's columns of the wide product. -/
theorem block_out (p : Fin 8) (hp : act (ix2 r 0) = BitVec.ofNat 32 p.val) (n : Fin 128) :
    k0_pay1 act (k0_pay8 x W b) (k0_pay9 act x W b) (k0_pay10 x W b) (Scalar.ofBits .f32 0x00000000#32) (k0_pay11 act)
      (ix2 r n) = (∑ h, x (ix2 r h) * W (ix2 h ⟨p.val * 128 + n.val, by omega⟩)) + b (ix2 0 ⟨p.val * 128 + n.val, by omega⟩) := by
  pointwise [k0_pay1, k0_pay9, k0_pay10, k0_pay11]
  rw [hp, ← block_wide]
  have h := one_hot_sum p (fun e => k0_pay8 x W b (ix2 r ⟨e.val * 128 + n.val, by omega⟩))
  rw [← h]
  simp

end Experts

end Cert.Moe

end

end
-- ==== Proof.Blocks.lean ====
/-
  WHAT THE KERNEL'S INPUT BLOCKS HOLD.

  Grid point `t` works on batch `t`. The host reshapes the arguments before the region: the tokens to rows, the expert
  weights to one wide matrix whose column `128 p + n` is column `n` of expert `p`. Each block is read here at an index as
  an element of an argument array.
-/
module

public import proofs.«01_k».proof.Proof.Block
public import proofs.«01_k».proof.Proof.Gen.KernelIdeal.Frame
public import Idealize.ShloMosaic.Lib.Pipeline.ValueKit
public import Idealize.ShloMosaic.Lib.StableHlo.RunRead

@[expose] public section

noncomputable section

namespace Cert.Moe.Kernel

open Idealize.ShloMosaic Idealize.ShloMosaic.TcCoe Cert.KernelIdeal Cert.KernelIdeal.Gen

/-- The batch of a grid point. -/
def batch (t : Fin cfg0.N) : Fin 4 := ⟨t.val, Nat.lt_of_lt_of_eq t.isLt (by decide)⟩

/-! ## The host's re-arrangements at an index -/

section Layout

-- a row number of the 8192 rows is divided out of a numeral this long
set_option maxRecDepth 16384

/-- Row `2048 b + s` of the tokens laid out as rows is token `s` of batch `b`. -/
theorem rows_apply (v : Vec Ideal S4x2048x768 .f32) (b : Fin 4) (s : Fin 2048) (k : Fin 768) (h) :
    shapeCast S8192x768 v shapeCasts_S4x2048x768_S8192x768 (ix2 ⟨b.val * 2048 + s.val, h⟩ k) = v (ix3 b s k) := by
  pointwise

/-- The per-batch features with a unit axis put in. -/
theorem feature_apply (v : Vec Ideal S4x65 .f32) (b : Fin 4) (k : Fin 65) :
    shapeCast S4x1x65 v shapeCasts_S4x65_S4x1x65 (ix3 b 0 k) = v (ix2 b k) := by
  pointwise

/-- The hidden layer's bias as one row. -/
theorem hiddenBias_apply (v : Vec Ideal S256 .f32) (j : Fin 256) :
    shapeCast S1x256 v shapeCasts_S256_S1x256 (ix2 0 j) = v (ix1 j) := by
  pointwise

/-- The router's output bias as one row. -/
theorem routerBias_apply (v : Vec Ideal S8 .f32) (e : Fin 8) :
    shapeCast S1x8 v shapeCasts_S8_S1x8 (ix2 0 e) = v (ix1 e) := by
  pointwise

/-- Column `128 p + n` of the wide matrix is column `n` of expert `p`. -/
theorem wide_apply (v : Vec Ideal S8x768x128 .f32) (h : Fin 768) (p : Fin 8) (n : Fin 128) (hc) :
    truncf (F := Ideal) .bf16 (shapeCast S768x1024
      (transpose S768x8x128 [1, 0, 2] v transposes_S8x768x128_S768x8x128_1_0_2) shapeCasts_S768x8x128_S768x1024)
      bitsLt_bf16_f32 (ix2 h ⟨p.val * 128 + n.val, hc⟩) = v (ix3 p h n) := by
  pointwise

/-- Column `128 p + n` of the experts' biases in one row is element `n` of expert `p`'s. -/
theorem wideBias_apply (v : Vec Ideal S8x128 .f32) (p : Fin 8) (n : Fin 128) (hc) :
    shapeCast S1x1024 v shapeCasts_S8x128_S1x1024 (ix2 0 ⟨p.val * 128 + n.val, hc⟩) = v (ix2 p n) := by
  pointwise

/-- A result of 8192 rows folded to tokens: token `s` of batch `b` is row `2048 b + s`. -/
theorem tokens_apply (v : Vec Ideal S8192x128 .f32) (b : Fin 4) (s : Fin 2048) (n : Fin 128) :
    shapeCast S4x2048x128 v shapeCasts_S8192x128_S4x2048x128 (ix3 b s n)
      = v (ix2 ⟨b.val * 2048 + s.val, by omega⟩ n) := by
  pointwise

/-- The same for a result with one number a row. -/
theorem column_apply {α : Type} (v : S8192x1.Idx → α) (b : Fin 4) (s : Fin 2048) :
    shapeCast S4x2048 v shapeCasts_S8192x1_S4x2048 (ix2 b s) = v (ix2 ⟨b.val * 2048 + s.val, by omega⟩ 0) := by
  pointwise

end Layout

/-! ## The arrays the region starts from -/

section Entry

variable (m : (ℓ : Loc nD τ sig) → Buf (Elt Ideal) ℓ) (c : Dev nD)

/-- The kernel's arguments on device `c`: tokens, per-batch features, the router's weights and biases, the experts'. -/
abbrev hs : Vec Ideal S4x2048x768 .f32 := m ((c.tc : Thread nD τ).loc main_arg0)
@[inherit_doc hs] abbrev tv : Vec Ideal S4x65 .f32 := m ((c.tc : Thread nD τ).loc main_arg1)
@[inherit_doc hs] abbrev W1 : Vec Ideal S833x256 .f32 := m ((c.tc : Thread nD τ).loc main_arg2)
@[inherit_doc hs] abbrev b1 : Vec Ideal S256 .f32 := m ((c.tc : Thread nD τ).loc main_arg3)
@[inherit_doc hs] abbrev W2 : Vec Ideal S256x8 .f32 := m ((c.tc : Thread nD τ).loc main_arg4)
@[inherit_doc hs] abbrev b2 : Vec Ideal S8 .f32 := m ((c.tc : Thread nD τ).loc main_arg5)
@[inherit_doc hs] abbrev We : Vec Ideal S8x768x128 .f32 := m ((c.tc : Thread nD τ).loc main_arg6)
@[inherit_doc hs] abbrev be : Vec Ideal S8x128 .f32 := m ((c.tc : Thread nD τ).loc main_arg7)

/-- What the host leaves in each array the region reads and no argument is. -/
theorem entry0 : V m c main_v0 = shapeCast S8192x768 (hs m c) shapeCasts_S4x2048x768_S8192x768 := by
  show StableHlo.after hostOps0 _ _ = _
  after_reads_simp
  rfl

@[inherit_doc entry0]
theorem entry1 : V m c main_v1 = shapeCast S4x1x65 (tv m c) shapeCasts_S4x65_S4x1x65 := by
  show StableHlo.after hostOps0 _ _ = _
  after_reads_simp
  rfl

@[inherit_doc entry0]
theorem entry3 : V m c main_v2 = shapeCast S1x256 (b1 m c) shapeCasts_S256_S1x256 := by
  show StableHlo.after hostOps0 _ _ = _
  after_reads_simp
  rfl

@[inherit_doc entry0]
theorem entry5 : V m c main_v3 = shapeCast S1x8 (b2 m c) shapeCasts_S8_S1x8 := by
  show StableHlo.after hostOps0 _ _ = _
  after_reads_simp
  rfl

@[inherit_doc entry0]
theorem entry6 : V m c main_v6 = truncf (F := Ideal) .bf16 (shapeCast S768x1024
    (transpose S768x8x128 [1, 0, 2] (We m c) transposes_S8x768x128_S768x8x128_1_0_2)
    shapeCasts_S768x8x128_S768x1024) bitsLt_bf16_f32 := by
  show StableHlo.after hostOps0 _ _ = _
  after_reads_simp
  rfl

@[inherit_doc entry0]
theorem entry7 : V m c main_v7 = shapeCast S1x1024 (be m c) shapeCasts_S8x128_S1x1024 := by
  show StableHlo.after hostOps0 _ _ = _
  after_reads_simp
  rfl

/-! ## The blocks of one grid point -/

/-- Where each window's block lies: the tokens and the features move with the point, the rest is whole. -/
theorem index0 : ∀ t : Fin cfg0.N, win0_0.index t = ![t.val, 0] := by decide +kernel
@[inherit_doc index0] theorem index1 : ∀ t : Fin cfg0.N, win0_1.index t = ![t.val, 0, 0] := by decide +kernel
@[inherit_doc index0] theorem index2 : ∀ t : Fin cfg0.N, win0_2.index t = ![0, 0] := by decide +kernel
@[inherit_doc index0] theorem index3 : ∀ t : Fin cfg0.N, win0_3.index t = ![0, 0] := by decide +kernel
@[inherit_doc index0] theorem index4 : ∀ t : Fin cfg0.N, win0_4.index t = ![0, 0] := by decide +kernel
@[inherit_doc index0] theorem index5 : ∀ t : Fin cfg0.N, win0_5.index t = ![0, 0] := by decide +kernel
@[inherit_doc index0] theorem index6 : ∀ t : Fin cfg0.N, win0_6.index t = ![0, 0] := by decide +kernel
@[inherit_doc index0] theorem index7 : ∀ t : Fin cfg0.N, win0_7.index t = ![0, 0] := by decide +kernel

variable (t : Fin cfg0.N)

/-- The row of the 8192 that row `r` of the point's blocks is. -/
def row (r : Fin 2048) : Fin 8192 := ⟨(batch t).val * 2048 + r.val, by omega⟩

/-- Row `r` of the point's tokens is token `r` of its batch. -/
theorem block0 (r : Fin 2048) (k : Fin 768) : iblk m c 0 t (ix2 r k) = hs m c (ix3 (batch t) r k) := by
  blk_simp [iblk]
  rw [entry0, show (win0_0.blk t).view.emb (ix2 r k) = ix2 (row t r) k by blk_ext [index0 t, row, batch]]
  exact rows_apply _ _ _ _ _

/-- The point's features are its batch's. -/
theorem block1 (k : Fin 65) : iblk m c 1 t (ix3 0 0 k) = tv m c (ix2 (batch t) k) := by
  blk_simp [iblk]
  rw [entry1, show (win0_1.blk t).view.emb (ix3 0 0 k) = ix3 (batch t) 0 k by blk_ext [index1 t, batch]]
  exact feature_apply _ _ _

/-- The router's and the experts' weights and biases are whole at every point. -/
theorem block2 (k : Fin 833) (j : Fin 256) : iblk m c 2 t (ix2 k j) = W1 m c (ix2 k j) := by
  blk_ext! [iblk, V, index2 t]

@[inherit_doc block2]
theorem block3 (j : Fin 256) : iblk m c 3 t (ix2 0 j) = b1 m c (ix1 j) := by
  blk_simp [iblk]
  rw [entry3, show (win0_3.blk t).view.emb (ix2 0 j) = ix2 0 j by blk_ext [index3 t]]
  exact hiddenBias_apply _ _

@[inherit_doc block2]
theorem block4 (j : Fin 256) (e : Fin 8) : iblk m c 4 t (ix2 j e) = W2 m c (ix2 j e) := by
  blk_ext! [iblk, V, index4 t]

@[inherit_doc block2]
theorem block5 (e : Fin 8) : iblk m c 5 t (ix2 0 e) = b2 m c (ix1 e) := by
  blk_simp [iblk]
  rw [entry5, show (win0_5.blk t).view.emb (ix2 0 e) = ix2 0 e by blk_ext [index5 t]]
  exact routerBias_apply _ _

@[inherit_doc block2]
theorem block6 (h : Fin 768) (p : Fin 8) (n : Fin 128) (hc : p.val * 128 + n.val < 1024) :
    iblk m c 6 t (ix2 h ⟨p.val * 128 + n.val, hc⟩) = We m c (ix3 p h n) := by
  blk_simp [iblk]
  rw [entry6, show (win0_6.blk t).view.emb (ix2 h ⟨p.val * 128 + n.val, hc⟩) = ix2 h ⟨p.val * 128 + n.val, hc⟩ by
    blk_ext [index6 t]]
  exact wide_apply _ _ _ _ _

@[inherit_doc block2]
theorem block7 (p : Fin 8) (n : Fin 128) (hc : p.val * 128 + n.val < 1024) :
    iblk m c 7 t (ix2 0 ⟨p.val * 128 + n.val, hc⟩) = be m c (ix2 p n) := by
  blk_simp [iblk]
  rw [entry7, show (win0_7.blk t).view.emb (ix2 0 ⟨p.val * 128 + n.val, hc⟩) = ix2 0 ⟨p.val * 128 + n.val, hc⟩ by
    blk_ext [index7 t]]
  exact wideBias_apply _ _ _ _

end Entry

end Cert.Moe.Kernel

end

end
-- ==== Proof.KernelValue.lean ====
/-
  WHAT THE KERNEL'S RESULTS HOLD.

  A grid point leaves in its output blocks the functions of its batch's tokens (Block over Blocks); the four points' blocks
  make up the three result arrays, which the host folds to tokens. Element `(b, s)` of each result is stated here from the
  argument arrays.
-/
module

public import proofs.«01_k».proof.Proof.Blocks

@[expose] public section

noncomputable section

namespace Cert.Moe.Kernel

open Idealize.ShloMosaic Idealize.ShloMosaic.TcCoe Cert.KernelIdeal Cert.KernelIdeal.Gen Idealize.SL.Sem
open scoped BigOperators

variable (m : (ℓ : Loc nD τ sig) → Buf (Elt Ideal) ℓ) (c : Dev nD)

/-- The logits of token `s` of batch `b`. -/
def token (b : Fin 4) (s : Fin 2048) : Fin 8 → EReal :=
  logit (fun k => hs m c (ix3 b s k)) (fun k => tv m c (ix2 b k)) (fun k j => W1 m c (ix2 k j)) (fun j => b1 m c (ix1 j))
    (fun j e => W2 m c (ix2 j e)) (fun e => b2 m c (ix1 e))

/-- The three results at a token: the chosen expert's linear layer, its log-probability, its number. -/
def out (b : Fin 4) (s : Fin 2048) (n : Fin 128) : EReal :=
  expert (fun h => hs m c (ix3 b s h)) (fun e h n => We m c (ix3 e h n)) (fun e n => be m c (ix2 e n))
    (best (token m c b s)) n
@[inherit_doc out] def logprob (b : Fin 4) (s : Fin 2048) : EReal := 0 - Ideal.log (mass (token m c b s))
@[inherit_doc out] def action (b : Fin 4) (s : Fin 2048) : BitVec 32 := BitVec.ofNat 32 (best (token m c b s)).val

/-! ## One point -/

variable (t : Fin cfg0.N) (r : Fin 2048)

/-- The logits of the block's row `r` are those of token `r` of the point's batch. -/
theorem rowLogit_eq : rowLogit (iblk m c 0 t) (iblk m c 1 t) (iblk m c 2 t) (iblk m c 3 t) (iblk m c 4 t) (iblk m c 5 t) r
    = token m c (batch t) r := by
  unfold rowLogit token
  simp only [block0, block1, block2, block3, block4, block5]

/-- What the point leaves in its block of log-probabilities. -/
theorem left9 (z : Fin 1) : (dats m 0 c).after 9 t (ix2 r z) = logprob m c (batch t) r := by
  rw [after0_9]
  frame_out
  refine (block_logprob _ _ _ _ _ _ r z).trans ?_
  rw [rowLogit_eq]
  rfl

/-- What the point leaves in its block of expert numbers. -/
theorem left10 (z : Fin 1) : (dats m 0 c).after 10 t (ix2 r z) = action m c (batch t) r := by
  rw [after0_10]
  unfold_out out0_10
  frame_out
  refine (block_action _ _ _ _ _ _ r z).trans ?_
  rw [rowLogit_eq]
  rfl

/-- The narrowed tokens the experts multiply are the tokens. -/
theorem narrowed (k : Fin 768) : k0_pay7 (iblk m c 0 t) (ix2 r k) = hs m c (ix3 (batch t) r k) := by
  pointwise [k0_pay7, k0_pay2]
  exact block0 m c t r k

/-- What the point leaves in its block of the first result. -/
theorem left8 (n : Fin 128) : (dats m 0 c).after 8 t (ix2 r n) = out m c (batch t) r n := by
  rw [after0_8]
  unfold_out out0_8
  frame_out
  refine (block_out _ _ _ _ r (best (token m c (batch t) r)) ((block_action _ _ _ _ _ _ r 0).trans ?_) n).trans ?_
  · rw [rowLogit_eq]
  · simp only [block6, block7, narrowed]
    rfl

/-! ## The arrays: row `i` of the 8192 is token `i % 2048` of batch `i / 2048` -/

/-- The batch and the token of a row. -/
def rowBatch (i : Fin 8192) : Fin 4 := ⟨i.val / 2048, by omega⟩
@[inherit_doc rowBatch] def rowToken (i : Fin 8192) : Fin 2048 := ⟨i.val % 2048, by omega⟩

/-- Row `2048 b + s` is of batch `b` and token `s`. -/
theorem rowBatch_mk (b : Fin 4) (s : Fin 2048) (h) : rowBatch ⟨b.val * 2048 + s.val, h⟩ = b := by
  apply Fin.ext; show (b.val * 2048 + s.val) / 2048 = b.val; omega
@[inherit_doc rowBatch_mk]
theorem rowToken_mk (b : Fin 4) (s : Fin 2048) (h) : rowToken ⟨b.val * 2048 + s.val, h⟩ = s := by
  apply Fin.ext; show (b.val * 2048 + s.val) % 2048 = s.val; omega

/-- The output blocks move with the point. -/
theorem index8 : ∀ t : Fin cfg0.N, win0_8.index t = ![t.val, 0] := by decide +kernel
@[inherit_doc index8] theorem index9 : ∀ t : Fin cfg0.N, win0_9.index t = ![t.val, 0] := by decide +kernel
@[inherit_doc index8] theorem index10 : ∀ t : Fin cfg0.N, win0_10.index t = ![t.val, 0] := by decide +kernel

/-- The first result's rows. -/
theorem array8 : (dats m 0 c).arrAt 8 cfg0.N
    = (fun i => out m c (rowBatch (i 0)) (rowToken (i 0)) (i 1) : S8192x128.Idx → EReal) := by
  refine (dats m 0 c).arrAt_eq_of_covers 8 _ (by decide +kernel) fun t hf y => ?_
  blk_simp
  obtain ⟨r, n, rfl⟩ : ∃ (r : Fin 2048) (n : Fin 128), y = ix2 r n := ⟨_, _, eq_ix2 y⟩
  rw [left8, show (win0_8.blk t).view.emb (ix2 r n) = ix2 (row t r) n by blk_ext [index8 t, row, batch]]
  simp only [ix2_0, ix2_1, row, rowBatch_mk, rowToken_mk]

/-- The log-probabilities' rows. -/
theorem array9 : (dats m 0 c).arrAt 9 cfg0.N
    = (fun i => logprob m c (rowBatch (i 0)) (rowToken (i 0)) : S8192x1.Idx → EReal) := by
  refine (dats m 0 c).arrAt_eq_of_covers 9 _ (by decide +kernel) fun t hf y => ?_
  blk_simp
  obtain ⟨r, z, rfl⟩ : ∃ (r : Fin 2048) (z : Fin 1), y = ix2 r z := ⟨_, _, eq_ix2 y⟩
  rw [left9, show (win0_9.blk t).view.emb (ix2 r z) = ix2 (row t r) z by blk_ext [index9 t, row, batch]]
  simp only [ix2_0, row, rowBatch_mk, rowToken_mk]

/-- The expert numbers' rows. -/
theorem array10 : (dats m 0 c).arrAt 10 cfg0.N
    = (fun i => action m c (rowBatch (i 0)) (rowToken (i 0)) : S8192x1.Idx → BitVec 32) := by
  refine (dats m 0 c).arrAt_eq_of_covers 10 _ (by decide +kernel) fun t hf y => ?_
  blk_simp
  obtain ⟨r, z, rfl⟩ : ∃ (r : Fin 2048) (z : Fin 1), y = ix2 r z := ⟨_, _, eq_ix2 y⟩
  rw [left10, show (win0_10.blk t).view.emb (ix2 r z) = ix2 (row t r) z by blk_ext [index10 t, row, batch]]
  simp only [ix2_0, row, rowBatch_mk, rowToken_mk]

/-! ## The results after the host's last lines -/

/-- The kernel's three results: each array of rows folded to tokens. -/
def outs : Vec Ideal S4x2048x128 .f32 :=
  shapeCast S4x2048x128 (fun i => out m c (rowBatch (i 0)) (rowToken (i 0)) (i 1) : S8192x128.Idx → EReal)
    shapeCasts_S8192x128_S4x2048x128
@[inherit_doc outs] def logprobs : Vec Ideal S4x2048 .f32 :=
  shapeCast S4x2048 (fun i => logprob m c (rowBatch (i 0)) (rowToken (i 0)) : S8192x1.Idx → EReal)
    shapeCasts_S8192x1_S4x2048
@[inherit_doc outs] def actions : Vec Ideal S4x2048 .i32 :=
  shapeCast S4x2048 (fun i => action m c (rowBatch (i 0)) (rowToken (i 0)) : S8192x1.Idx → BitVec 32)
    shapeCasts_S8192x1_S4x2048

/-- Element `(b, s)` of a result is the token's. -/
theorem outs_apply (b : Fin 4) (s : Fin 2048) (n : Fin 128) : outs m c (ix3 b s n) = out m c b s n := by
  unfold outs
  rw [tokens_apply]
  simp only [ix2_0, ix2_1, rowBatch_mk, rowToken_mk]
@[inherit_doc outs_apply]
theorem logprobs_apply (b : Fin 4) (s : Fin 2048) : logprobs m c (ix2 b s) = logprob m c b s := by
  unfold logprobs
  rw [column_apply]
  simp only [ix2_0, rowBatch_mk, rowToken_mk]
@[inherit_doc outs_apply]
theorem actions_apply (b : Fin 4) (s : Fin 2048) : actions m c (ix2 b s) = action m c b s := by
  unfold actions
  rw [column_apply]
  simp only [ix2_0, rowBatch_mk, rowToken_mk]

/-- The lines after the region leave each result folded to tokens. -/
theorem tail8 : Pipeline.afterTail₀ cfgs (dats m) 0 (V0 m) [hostOps1] c main_v9 = outs m c := by
  unfold Pipeline.afterTail₀ outs
  show StableHlo.after hostOps1 _ _ = _
  after_reads_simp
  rw [← array8, ← Pipeline.withArrays_arr spec0 launch0.win.arr_inj c (V0 m c) (fun w => (dats m 0 c).arrAt w cfg0.N) 8]
  rfl
@[inherit_doc tail8]
theorem tail9 : Pipeline.afterTail₀ cfgs (dats m) 0 (V0 m) [hostOps1] c main_v10 = logprobs m c := by
  unfold Pipeline.afterTail₀ logprobs
  show StableHlo.after hostOps1 _ _ = _
  after_reads_simp
  rw [← array9, ← Pipeline.withArrays_arr spec0 launch0.win.arr_inj c (V0 m c) (fun w => (dats m 0 c).arrAt w cfg0.N) 9]
  rfl
@[inherit_doc tail8]
theorem tail10 : Pipeline.afterTail₀ cfgs (dats m) 0 (V0 m) [hostOps1] c main_v11 = actions m c := by
  unfold Pipeline.afterTail₀ actions
  show StableHlo.after hostOps1 _ _ = _
  after_reads_simp
  rw [← array10, ← Pipeline.withArrays_arr spec0 launch0.win.arr_inj c (V0 m c) (fun w => (dats m 0 c).arrAt w cfg0.N) 10]
  rfl

/-- Every run of the kernel ends with its three results at these values. -/
theorem results (ρ : Dev nD → PrngReg) : θ_run defs (onTc (τ := τ) (main (F := Ideal))) ⟨m, fun _ => 0, ρ⟩
    fun r => ∀ c : Dev nD, r.2.mem ((c.tc : Thread nD τ).loc main_v9) = outs m c
      ∧ r.2.mem ((c.tc : Thread nD τ).loc main_v10) = logprobs m c
      ∧ r.2.mem ((c.tc : Thread nD τ).loc main_v11) = actions m c :=
  (θ_run defs _ _).mono (fun _ h c =>
    ⟨((h c).2 main_v9 (Pipeline.mem_restRefs_of main_v9 (by decide) (by decide))).trans (tail8 m c),
     ((h c).2 main_v10 (Pipeline.mem_restRefs_of main_v10 (by decide) (by decide))).trans (tail9 m c),
     ((h c).2 main_v11 (Pipeline.mem_restRefs_of main_v11 (by decide) (by decide))).trans (tail10 m c)⟩)
    (run_main m ρ)

end Cert.Moe.Kernel

end

end
-- ==== Proof.RefArgmax.lean ====
/-
  THE REFERENCE'S ARG-MAX, one token at a time.

  The arg-max folds a comparison of (logit, index) pairs over a token's eight pairs. Whatever the order of the pairs, the
  fold ends at the first index of the largest logit.
-/
module

public import proofs.«01_k».proof.Proof.Router
public import proofs.«01_k».proof.Proof.RefRead

@[expose] public section

noncomputable section

namespace Cert.Moe.Ref

open Cert.ReferenceIdeal Cert.ReferenceIdeal.Gen Idealize.ShloMosaic

/-- The pair `r` is the logit of index `p` and `p`, or the fold's initial pair. -/
def Names (l : Fin 8 → EReal) (r : EReal × BitVec 32) (p : Fin 8) : Prop :=
  r.2 = BitVec.ofNat 32 p.val ∧ (r.1 = l p ∨ (r.1 = ⊥ ∧ p = 0))

/-- The value `v` at index `p` is above the logit of `e`, or equal to it at no later an index. -/
def Beats (l : Fin 8 → EReal) (v : EReal) (p e : Fin 8) : Prop := l e < v ∨ (l e = v ∧ p ≤ e)

/-- Index words compare as the indices do. -/
theorem word_slt (p e : Fin 8) : (BitVec.ofNat 32 p.val).slt (BitVec.ofNat 32 e.val) = decide (p < e) := by
  revert p e; decide +kernel

/-- One comparison: the winner beats the pair compared and whatever the loser beat. -/
theorem argmax_step (l : Fin 8 → EReal) (r : EReal × BitVec 32) (p e : Fin 8) (h : Names l r p) :
    ∃ q, Names l (reducer_argmax_f32_i32 (F := Ideal) r (l e, BitVec.ofNat 32 e.val)) q
      ∧ (∀ e', Beats l r.1 p e' → Beats l (reducer_argmax_f32_i32 (F := Ideal) r (l e, BitVec.ofNat 32 e.val)).1 q e')
      ∧ Beats l (reducer_argmax_f32_i32 (F := Ideal) r (l e, BitVec.ofNat 32 e.val)).1 q e := by
  obtain ⟨v, w⟩ := r
  obtain ⟨rfl, hv⟩ : w = BitVec.ofNat 32 p.val ∧ (v = l p ∨ (v = ⊥ ∧ p = 0)) := h
  rcases lt_trichotomy (l e) v with hlt | heq | hgt
  · have hr : reducer_argmax_f32_i32 (F := Ideal) (v, BitVec.ofNat 32 p.val) (l e, BitVec.ofNat 32 e.val)
        = (v, BitVec.ofNat 32 p.val) := by
      simp [reducer_argmax_f32_i32, Ideal.cmpf_def, Ideal.cmp, hlt, hlt.ne', Scalar.select, IntOp.ori, IntOp.andi]
    rw [hr]
    exact ⟨p, ⟨rfl, hv⟩, fun e' h => h, Or.inl hlt⟩
  · have hr : reducer_argmax_f32_i32 (F := Ideal) (v, BitVec.ofNat 32 p.val) (l e, BitVec.ofNat 32 e.val)
        = (l e, if p < e then BitVec.ofNat 32 p.val else BitVec.ofNat 32 e.val) := by
      by_cases hpe : p < e <;>
      simp [reducer_argmax_f32_i32, Ideal.cmpf_def, Ideal.cmp, heq, Scalar.select, IntOp.ori, IntOp.andi, IntOp.cmpi,
        word_slt, hpe]
    rw [hr]
    by_cases hpe : p < e
    · refine ⟨p, ⟨by simp [hpe], by rw [heq]; exact hv⟩, fun e' h => ?_, Or.inr ⟨rfl, hpe.le⟩⟩
      rw [heq]; exact h
    · refine ⟨e, ⟨by simp [hpe], Or.inl rfl⟩, fun e' h => ?_, Or.inr ⟨rfl, le_rfl⟩⟩
      rcases h with h | ⟨h, h'⟩
      · exact Or.inl (heq ▸ h)
      · exact Or.inr ⟨h.trans heq.symm, (not_lt.mp hpe).trans h'⟩
  · have hr : reducer_argmax_f32_i32 (F := Ideal) (v, BitVec.ofNat 32 p.val) (l e, BitVec.ofNat 32 e.val)
        = (l e, BitVec.ofNat 32 e.val) := by
      simp [reducer_argmax_f32_i32, Ideal.cmpf_def, Ideal.cmp, hgt.not_gt, hgt.ne, Scalar.select, IntOp.ori, IntOp.andi]
    rw [hr]
    refine ⟨e, ⟨rfl, Or.inl rfl⟩, fun e' h => Or.inl ?_, Or.inr ⟨rfl, le_rfl⟩⟩
    rcases h with h | ⟨h, -⟩
    · exact h.trans hgt
    · exact h ▸ hgt

/-- The fold over a list of pairs: its end names an index that beats every pair of the list. -/
theorem argmax_fold {ι : Type} (l : Fin 8 → EReal) (g : ι → EReal × BitVec 32) (at_ : ι → Fin 8) (L : List ι)
    (hg : ∀ n ∈ L, g n = (l (at_ n), BitVec.ofNat 32 (at_ n).val)) (r : EReal × BitVec 32) (p : Fin 8) (h : Names l r p) :
    ∃ q, Names l ((L.map g).foldl (reducer_argmax_f32_i32 (F := Ideal)) r) q
      ∧ (∀ e, Beats l r.1 p e → Beats l ((L.map g).foldl (reducer_argmax_f32_i32 (F := Ideal)) r).1 q e)
      ∧ ∀ n ∈ L, Beats l ((L.map g).foldl (reducer_argmax_f32_i32 (F := Ideal)) r).1 q (at_ n) := by
  induction L generalizing r p with
  | nil => exact ⟨p, h, fun e h => h, fun n hn => absurd hn List.not_mem_nil⟩
  | cons n L ih =>
    obtain ⟨q, hq, hkeep, hn⟩ := argmax_step l r p (at_ n) h
    obtain ⟨q', hq', hkeep', hL⟩ := ih (fun n hn => hg n (List.mem_cons_of_mem _ hn)) _ q hq
    rw [List.map_cons, List.foldl_cons, hg n List.mem_cons_self]
    refine ⟨q', hq', fun e he => hkeep' e (hkeep e he), fun n' hn' => ?_⟩
    rcases List.mem_cons.mp hn' with rfl | hn'
    · exact hkeep' _ hn
    · exact hL n' hn'

/-- An index that beats all eight is the first one of the largest logit. -/
theorem best_of_beats (l : Fin 8 → EReal) (r : EReal × BitVec 32) (q : Fin 8) (hq : Names l r q)
    (h : ∀ e, Beats l r.1 q e) : best l = q := by
  have hv : r.1 = l q := by
    rcases hq.2 with h1 | ⟨h1, rfl⟩
    · exact h1
    · rcases h 0 with h0 | h0
      · rw [h1] at h0; exact absurd h0 not_lt_bot
      · exact h0.1.symm
  rw [hv] at h
  have hle : ∀ e, l e ≤ l q := fun e => (h e).elim (fun h => h.le) fun h => h.1.le
  have htop : l q = top l := by
    refine le_antisymm (le_top l q) ?_
    obtain ⟨e, he⟩ := exists_eq_top l
    exact he ▸ hle e
  refine best_unique l q htop fun e he => ?_
  rcases h e with h1 | h1
  · rw [he, htop] at h1; exact absurd h1 (lt_irrefl _)
  · exact h1.2

/-- The reference's arg-max of token `s` of batch `b` is the first index of its largest logit. -/
theorem argMax_apply (l : FVec Ideal S4x2048x8 .f32) (b : Fin 4) (s : Fin 2048) :
    argMax l (ix2 b s) = BitVec.ofNat 32 (best fun e => l (ix3 b s e)).val := by
  unfold argMax
  rw [Ideal.argReduce_eq_reduce2, Host.reduce2_eq_foldl_fiber]
  unfold Host.argReduceFiber
  obtain ⟨q, hq, -, hall⟩ := argmax_fold (fun e => l (ix3 b s e))
    (fun n => (l (S4x2048x8.rowMajor.symm n), iotaInDim S4x2048x8 32 2 (S4x2048x8.rowMajor.symm n)))
    (fun n => S4x2048x8.rowMajor.symm n 2)
    ((List.finRange S4x2048x8.numel).filter fun n =>
      reducesTo_S4x2048x8_S4x2048_d2.drop (S4x2048x8.rowMajor.symm n) = ix2 b s)
    (fun n hn => by
      have hd := of_decide_eq_true (List.mem_filter.mp hn).2
      have hi : S4x2048x8.rowMajor.symm n = ix3 b s (S4x2048x8.rowMajor.symm n 2) := by
        funext a; refine Fin.ext ?_
        match a with
        | ⟨0, _⟩ => exact (reducesTo_S4x2048x8_S4x2048_d2.drop_apply_val_of_eq _ 0 0).symm.trans (by rw [hd]; rfl)
        | ⟨1, _⟩ => exact (reducesTo_S4x2048x8_S4x2048_d2.drop_apply_val_of_eq _ 1 1).symm.trans (by rw [hd]; rfl)
        | ⟨2, _⟩ => rfl
      refine Prod.ext (congrArg l hi) rfl)
    (constant (F := Ideal) S_ .f32 0xFF800000#32 (Shape.Idx.first h_S_), constantI S_ 32 0#32 (Shape.Idx.first h_S_)) 0
    ⟨rfl, Or.inr ⟨ofBits_neg_inf, rfl⟩⟩
  rw [best_of_beats _ _ q hq fun e => ?_]
  · exact hq.1
  · have := hall (S4x2048x8.rowMajor (ix3 b s e)) (List.mem_filter.mpr ⟨List.mem_finRange _, decide_eq_true (by
      rw [Equiv.symm_apply_apply]
      funext a; refine Fin.ext ?_
      match a with
      | ⟨0, _⟩ => exact reducesTo_S4x2048x8_S4x2048_d2.drop_apply_val_of_eq _ 0 0
      | ⟨1, _⟩ => exact reducesTo_S4x2048x8_S4x2048_d2.drop_apply_val_of_eq _ 1 1)⟩)
    simp only [Equiv.symm_apply_apply] at this
    exact this

end Cert.Moe.Ref

end

end
-- ==== Proof.RefValue.lean ====
/-
  THE REFERENCE'S ARRAYS, entry by entry, over the extended reals.
-/
module

public import proofs.«01_k».proof.Proof.Router
public import proofs.«01_k».proof.Proof.RefArgmax

@[expose] public section

noncomputable section

namespace Cert.Moe.Ref

open Cert.ReferenceIdeal Cert.ReferenceIdeal.Gen Idealize.ShloMosaic
open scoped BigOperators

/-- The reference's logits of token `s` of batch `b`. -/
theorem logits_apply (hs : FVec Ideal S4x2048x768 .f32) (tv : FVec Ideal S4x65 .f32) (W1 : FVec Ideal S833x256 .f32)
    (b1 : FVec Ideal S256 .f32) (W2 : FVec Ideal S256x8 .f32) (b2 : FVec Ideal S8 .f32) (b : Fin 4) (s : Fin 2048) (e : Fin 8) :
    logits hs tv W1 b1 W2 b2 (ix3 b s e)
      = logit (fun k => hs (ix3 b s k)) (fun k => tv (ix2 b k)) (fun k j => W1 (ix2 k j)) (fun j => b1 (ix1 j))
          (fun j e => W2 (ix2 j e)) (fun e => b2 (ix1 e)) e := by
  pointwise [logits, beside]
  rfl

/-- The logits less their row's largest, at an entry. -/
theorem shifted_apply (l : FVec Ideal S4x2048x8 .f32) (b : Fin 4) (s : Fin 2048) (e : Fin 8) :
    shifted l (ix3 b s e) = l (ix3 b s e) - top (fun e => l (ix3 b s e)) := by
  pointwise [shifted]
  rw [ofBits_neg_inf, max_eq_right bot_le]
  rfl

/-- The log-softmax at an entry. -/
theorem logSoftmax_apply (l : FVec Ideal S4x2048x8 .f32) (b : Fin 4) (s : Fin 2048) (e : Fin 8) :
    logSoftmax l (ix3 b s e)
      = (l (ix3 b s e) - top (fun e => l (ix3 b s e))) - Ideal.log (mass (fun e => l (ix3 b s e))) := by
  pointwise [logSoftmax]
  simp only [shifted_apply]
  rfl

/-- The last product, at an entry. -/
theorem product_apply (hs : FVec Ideal S4x2048x768 .f32) (w : FVec Ideal S4x2048x768x128 .f32)
    (bi : FVec Ideal S4x2048x128 .f32) (b : Fin 4) (s : Fin 2048) (n : Fin 128) :
    product hs w bi (ix3 b s n) = (∑ h, hs (ix3 b s h) * w (ix4 b s h n)) + bi (ix3 b s n) := by
  pointwise [product]

/-! ## Indices that are already in range -/

/-- Of an index below eight nothing is counted from the end. -/
theorem wrap_word (p : Fin 8) : Scalar.select (IntOp.cmpi CmpIPredicate.slt (BitVec.ofNat 32 p.val) 0#32)
    (IntOp.addi (BitVec.ofNat 32 p.val) 8#32) (BitVec.ofNat 32 p.val) = BitVec.ofNat 32 p.val := by
  revert p; decide +kernel

/-- And it passes the check of its range. -/
theorem range_word (p : Fin 8) : IntOp.andi (IntOp.cmpi CmpIPredicate.sge (BitVec.ofNat 32 p.val) 0#32)
    (IntOp.cmpi CmpIPredicate.sle (BitVec.ofNat 32 p.val) 7#32) = 1#1 := by
  revert p; decide +kernel

/-- Clamped to the eight it is itself. -/
theorem clamp_word (p : Fin 8) : min (BitVec.ofNat 32 p.val).toInt.toNat 7 = p.val := by
  revert p; decide +kernel

/-- The start index of an index in range is that index. -/
theorem rowIdx_apply (a : IVec S4x2048 32) (b : Fin 4) (s : Fin 2048) (z : Fin 1) (p : Fin 8)
    (h : a (ix2 b s) = BitVec.ofNat 32 p.val) : rowIdx a (ix3 b s z) = BitVec.ofNat 32 p.val := by
  pointwise [rowIdx]
  rw [h, wrap_word]

/-- The same along the logits' last axis. -/
theorem alongIdx_apply (i : IVec S4x2048x1 32) (b : Fin 4) (s : Fin 2048) (z y : Fin 1) (p : Fin 8)
    (h : i (ix3 b s 0) = BitVec.ofNat 32 p.val) : alongIdx i (ix4 b s z y) = BitVec.ofNat 32 p.val := by
  pointwise [alongIdx]
  rw [h, wrap_word]

/-- A start index in range passes. -/
theorem rowOk_apply (i : IVec S4x2048x1 32) (b : Fin 4) (s : Fin 2048) (p : Fin 8)
    (h : i (ix3 b s 0) = BitVec.ofNat 32 p.val) : rowOk i (ix2 b s) = 1#1 := by
  pointwise [rowOk]
  rw [Finset.univ_unique, Finset.fold_singleton]
  simp only [Subsingleton.elim _ (0 : Fin 1), h, range_word]
  rfl

/-- The same along the logits' last axis. -/
theorem alongOk_apply (i : IVec S4x2048x1x1 32) (b : Fin 4) (s : Fin 2048) (z : Fin 1) (p : Fin 8)
    (h : i (ix4 b s 0 0) = BitVec.ofNat 32 p.val) : alongOk i (ix3 b s z) = 1#1 := by
  pointwise [alongOk]
  rw [Finset.univ_unique, Finset.fold_singleton]
  simp only [Subsingleton.elim _ (0 : Fin 1), h, range_word]
  rfl

/-! ## The gathers -/

/-- The gather of one expert's weights. -/
theorem gather_weights (We : FVec Ideal S8x768x128 .f32) (i : IVec S4x2048x1 32) (b : Fin 4) (s : Fin 2048) (h : Fin 768)
    (n : Fin 128) (p : Fin 8) (hp : i (ix3 b s 0) = BitVec.ofNat 32 p.val) :
    Host.gather gather_S8x768x128_S4x2048x1_S4x2048x768x128_23_0_n_n_0_2_1768128 We i (ix4 b s h n)
      = We (ix3 p h n) := by
  unfold Host.gather
  congr 1
  funext a
  refine Fin.ext ?_
  match a with
  | ⟨0, _⟩ =>
    have hsi : gather_S8x768x128_S4x2048x1_S4x2048x768x128_23_0_n_n_0_2_1768128.siIdx (ix4 b s h n) ⟨0, Nat.one_pos⟩
        = ix3 b s 0 := by
      funext a; refine Fin.ext ?_
      match a with
      | ⟨0, _⟩ => rfl
      | ⟨1, _⟩ => rfl
      | ⟨2, _⟩ => rfl
    exact (congrArg (fun w : BitVec 32 => min w.toInt.toNat 7) ((congrArg i hsi).trans hp)).trans (clamp_word p)
  | ⟨1, _⟩ => exact Nat.zero_add _
  | ⟨2, _⟩ => exact Nat.zero_add _

/-- The gather of one expert's biases. -/
theorem gather_biases (be : FVec Ideal S8x128 .f32) (i : IVec S4x2048x1 32) (b : Fin 4) (s : Fin 2048) (n : Fin 128)
    (p : Fin 8) (hp : i (ix3 b s 0) = BitVec.ofNat 32 p.val) :
    Host.gather gather_S8x128_S4x2048x1_S4x2048x128_2_0_n_n_0_2_1128 be i (ix3 b s n)
      = be (ix2 p n) := by
  unfold Host.gather
  congr 1
  funext a
  refine Fin.ext ?_
  match a with
  | ⟨0, _⟩ =>
    have hsi : gather_S8x128_S4x2048x1_S4x2048x128_2_0_n_n_0_2_1128.siIdx (ix3 b s n) ⟨0, Nat.one_pos⟩ = ix3 b s 0 := by
      funext a; refine Fin.ext ?_
      match a with
      | ⟨0, _⟩ => rfl
      | ⟨1, _⟩ => rfl
      | ⟨2, _⟩ => rfl
    exact (congrArg (fun w : BitVec 32 => min w.toInt.toNat 7) ((congrArg i hsi).trans hp)).trans (clamp_word p)
  | ⟨1, _⟩ => exact Nat.zero_add _

/-- The gather of one entry of each row of logits. -/
theorem gather_along (x : FVec Ideal S4x2048x8 .f32) (i : IVec S4x2048x1x1 32) (b : Fin 4) (s : Fin 2048) (z : Fin 1)
    (p : Fin 8) (hp : i (ix4 b s z 0) = BitVec.ofNat 32 p.val) :
    Host.gather gather_S4x2048x8_S4x2048x1x1_S4x2048x1_n_2_01_01_2_3_111 x i (ix3 b s z)
      = x (ix3 b s p) := by
  unfold Host.gather
  congr 1
  funext a
  refine Fin.ext ?_
  match a with
  | ⟨0, _⟩ => exact Nat.zero_add _
  | ⟨1, _⟩ => exact Nat.zero_add _
  | ⟨2, _⟩ =>
    have hsi : gather_S4x2048x8_S4x2048x1x1_S4x2048x1_n_2_01_01_2_3_111.siIdx (ix3 b s z) ⟨0, Nat.one_pos⟩
        = ix4 b s z 0 := by
      funext a; refine Fin.ext ?_
      match a with
      | ⟨0, _⟩ => rfl
      | ⟨1, _⟩ => rfl
      | ⟨2, _⟩ => rfl
      | ⟨3, _⟩ => rfl
    exact (congrArg (fun w : BitVec 32 => min w.toInt.toNat 7) ((congrArg i hsi).trans hp)).trans (clamp_word p)

/-- One expert's weights, of an index in range. -/
theorem weights_apply (We : FVec Ideal S8x768x128 .f32) (a : IVec S4x2048 32) (b : Fin 4) (s : Fin 2048) (h : Fin 768)
    (n : Fin 128) (p : Fin 8) (ha : a (ix2 b s) = BitVec.ofNat 32 p.val) : weights We a (ix4 b s h n) = We (ix3 p h n) := by
  have hi := rowIdx_apply a b s 0 p ha
  pointwise [weights]
  rw [rowOk_apply _ b s p hi, gather_weights _ _ _ _ _ _ p hi]
  rfl

/-- One expert's biases, of an index in range. -/
theorem biases_apply (be : FVec Ideal S8x128 .f32) (a : IVec S4x2048 32) (b : Fin 4) (s : Fin 2048)
    (n : Fin 128) (p : Fin 8) (ha : a (ix2 b s) = BitVec.ofNat 32 p.val) : biases be a (ix3 b s n) = be (ix2 p n) := by
  have hi := rowIdx_apply a b s 0 p ha
  pointwise [biases]
  rw [rowOk_apply _ b s p hi, gather_biases _ _ _ _ _ p hi]
  rfl

/-- A row's entry at an index in range. -/
theorem along_apply (x : FVec Ideal S4x2048x8 .f32) (i : IVec S4x2048x1 32) (b : Fin 4) (s : Fin 2048) (z : Fin 1)
    (p : Fin 8) (hp : i (ix3 b s 0) = BitVec.ofNat 32 p.val) : along x i (ix3 b s z) = x (ix3 b s p) := by
  have hi := fun z y => alongIdx_apply i b s z y p hp
  pointwise [along]
  rw [alongOk_apply _ b s _ p (hi 0 0), gather_along _ _ _ _ _ p (hi _ 0)]
  rfl

/-! ## The three results -/

section Results

variable (hs : FVec Ideal S4x2048x768 .f32) (tv : FVec Ideal S4x65 .f32) (W1 : FVec Ideal S833x256 .f32)
  (b1 : FVec Ideal S256 .f32) (W2 : FVec Ideal S256x8 .f32) (b2 : FVec Ideal S8 .f32) (We : FVec Ideal S8x768x128 .f32)
  (be : FVec Ideal S8x128 .f32) (b : Fin 4) (s : Fin 2048)

/-- The logits of token `s` of batch `b`. -/
abbrev tokenLogit : Fin 8 → EReal :=
  logit (fun k => hs (ix3 b s k)) (fun k => tv (ix2 b k)) (fun k j => W1 (ix2 k j)) (fun j => b1 (ix1 j))
    (fun j e => W2 (ix2 j e)) (fun e => b2 (ix1 e))

/-- The reference's expert numbers. -/
theorem action_value : argMax (logits hs tv W1 b1 W2 b2) (ix2 b s)
    = BitVec.ofNat 32 (best (tokenLogit hs tv W1 b1 W2 b2 b s)).val := by
  rw [argMax_apply]
  simp only [logits_apply]

/-- The reference's result: the chosen expert's linear layer. -/
theorem out_value (n : Fin 128) :
    product hs (weights We (argMax (logits hs tv W1 b1 W2 b2))) (biases be (argMax (logits hs tv W1 b1 W2 b2))) (ix3 b s n)
      = expert (fun h => hs (ix3 b s h)) (fun e h n => We (ix3 e h n)) (fun e n => be (ix2 e n))
          (best (tokenLogit hs tv W1 b1 W2 b2 b s)) n := by
  have ha := action_value hs tv W1 b1 W2 b2 b s
  rw [product_apply, biases_apply be _ b s n _ ha]
  simp only [weights_apply We _ b s _ n _ ha]
  rfl

/-- The reference's log-probabilities: minus the logarithm of the mass, when the largest logit is finite. -/
theorem logprob_value (hb : top (tokenLogit hs tv W1 b1 W2 b2 b s) ≠ ⊥) (ht : top (tokenLogit hs tv W1 b1 W2 b2 b s) ≠ ⊤) :
    shapeCast S4x2048 (along (logSoftmax (logits hs tv W1 b1 W2 b2))
        (broadcastInDim S4x2048x1 ![0, 1] bcast_S4x2048_S4x2048x1_0_1 (argMax (logits hs tv W1 b1 W2 b2))))
        shapeCasts_S4x2048x1_S4x2048 (ix2 b s)
      = 0 - Ideal.log (mass (tokenLogit hs tv W1 b1 W2 b2 b s)) := by
  pointwise
  rw [along_apply _ _ b s _ (best (tokenLogit hs tv W1 b1 W2 b2 b s)) (by
    pointwise
    exact action_value hs tv W1 b1 W2 b2 b s), logSoftmax_apply]
  simp only [logits_apply]
  exact chosen_logprob (tokenLogit hs tv W1 b1 W2 b2 b s) hb ht _

end Results

end Cert.Moe.Ref

end

end
-- ==== Proof.Finite.lean ====
/-
  WHAT THE PRECONDITION SAYS.

  `finite_router` holds when every entry of the router's second layer, weights and biases, is finite. The layer's inputs
  are hyperbolic tangents, which are real numbers whatever they are taken of, so the logits are then real numbers, and so
  is the largest of them.
-/
module

public import proofs.«01_k».proof.Proof.Router
public import proofs.«01_k».proof.Proof.Gen.Pre_finite_router
public import Idealize.ShloMosaic.Lib.ReduceAll

@[expose] public section

noncomputable section

namespace Cert.Moe

open Idealize.ShloMosaic
open scoped BigOperators

/-! ## Real logits -/

/-- The hyperbolic tangent of an extended real is a real number. -/
theorem tanh_real (a : EReal) : ∃ r : ℝ, Ideal.tanh a = r := by
  induction a using EReal.rec with
  | bot => exact ⟨-1, show (-1 : EReal) = _ by rw [EReal.coe_neg, EReal.coe_one]⟩
  | top => exact ⟨1, show (1 : EReal) = _ by rw [EReal.coe_one]⟩
  | coe r => exact ⟨Real.tanh r, rfl⟩

/-- A finite sum of real numbers is a real number. -/
theorem sum_real {ι : Type} (s : Finset ι) (f : ι → EReal) (h : ∀ i, ∃ r : ℝ, f i = r) : ∃ r : ℝ, ∑ i ∈ s, f i = r := by
  induction s using Finset.cons_induction with
  | empty => exact ⟨0, by simp⟩
  | cons a s ha ih =>
    obtain ⟨u, hu⟩ := ih
    obtain ⟨v, hv⟩ := h a
    exact ⟨v + u, by rw [Finset.sum_cons, hu, hv, EReal.coe_add]⟩

/-- With a real second layer the logits are real. -/
theorem logit_real (x : Fin 768 → EReal) (tv : Fin 65 → EReal) (W1 : Fin 833 → Fin 256 → EReal) (b1 : Fin 256 → EReal)
    (W2 : Fin 256 → Fin 8 → EReal) (b2 : Fin 8 → EReal) (hW : ∀ j e, ∃ r : ℝ, W2 j e = r) (hb : ∀ e, ∃ r : ℝ, b2 e = r)
    (e : Fin 8) : ∃ r : ℝ, logit x tv W1 b1 W2 b2 e = r := by
  obtain ⟨u, hu⟩ := sum_real Finset.univ (fun j => hid x tv W1 b1 j * W2 j e) fun j => by
    obtain ⟨t, ht⟩ := tanh_real ((∑ k : Fin 768, x k * W1 ⟨k.val, by omega⟩ j)
      + (∑ k : Fin 65, tv k * W1 ⟨768 + k.val, by omega⟩ j) + b1 j)
    obtain ⟨w, hw⟩ := hW j e
    exact ⟨t * w, by rw [hid, ht, hw, EReal.coe_mul]⟩
  obtain ⟨v, hv⟩ := hb e
  exact ⟨u + v, by rw [logit, hu, hv, EReal.coe_add]⟩

/-- The largest of eight real logits is real. -/
theorem top_real (l : Fin 8 → EReal) (h : ∀ e, ∃ r : ℝ, l e = r) : top l ≠ ⊥ ∧ top l ≠ ⊤ := by
  obtain ⟨e, he⟩ := exists_eq_top l
  obtain ⟨r, hr⟩ := h e
  rw [← he, hr]
  exact ⟨EReal.coe_ne_bot r, EReal.coe_ne_top r⟩

/-! ## The precondition -/

/-- The pattern of infinity is the greatest extended real. -/
theorem ofBits_inf : Ideal.ofBits FTy.f32 0x7F800000#32 = ⊤ := by
  simp [Ideal.ofBits, Ideal.ieee]

/-- An entry whose magnitude is below infinity is a real number. -/
theorem real_of_abs_lt (a : EReal)
    (h : FloatOps.cmpf (F := Ideal) (φ := .f32) .olt (FloatOps.absf (F := Ideal) (φ := .f32) a) (Ideal.ofBits FTy.f32 0x7F800000#32) = 1#1) :
    ∃ r : ℝ, a = r := by
  rw [ofBits_inf, Ideal.cmpf_def, Ideal.absf_def] at h
  induction a using EReal.rec with
  | bot => simp [Ideal.cmp] at h
  | top => simp [Ideal.cmp] at h
  | coe r => exact ⟨r, rfl⟩

open Cert.Pre_finite_router in
/-- The precondition: the router's second layer is real. -/
theorem finite_router_real (a0 : FVec Ideal S4x2048x768 .f32) (a1 : FVec Ideal S4x65 .f32) (a2 : FVec Ideal S833x256 .f32)
    (a3 : FVec Ideal S256 .f32) (a4 : FVec Ideal S256x8 .f32) (a5 : FVec Ideal S8 .f32) (a6 : FVec Ideal S8x768x128 .f32)
    (a7 : FVec Ideal S8x128 .f32) (h : fn (F := Ideal) a0 a1 a2 a3 a4 a5 a6 a7 = fun _ => 1#1) :
    (∀ j e, ∃ r : ℝ, a4 (ix2 j e) = r) ∧ ∀ e, ∃ r : ℝ, a5 (ix1 e) = r := by
  have hs : Subsingleton S_.Idx := ⟨fun i j => funext fun a => a.elim0⟩
  obtain ⟨h1, h2⟩ := IntOp.andi_eq_one.1 (congrFun h (Shape.Idx.first Facts.h_S_))
  exact ⟨fun j e => real_of_abs_lt _ (Host.reduce_andi_all _ _ _ _ _ h1 (ix2 j e)),
    fun e => real_of_abs_lt _ (Host.reduce_andi_all _ _ _ _ _ h2 (ix1 e))⟩

end Cert.Moe

end

end
-- ==== Proof.Equation.lean ====
/-
  THE EQUATION.

  From the same arguments the reference's three results are the kernel's: element by element both are the same function
  of one token. The log-probability needs the router's last layer finite, and only that: then every logit is a real number,
  and the chosen logit less the largest is zero.
-/
module

public import proofs.«01_k».proof.Proof.KernelValue
public import proofs.«01_k».proof.Proof.RefValue
public import proofs.«01_k».proof.Proof.Finite

@[expose] public section

noncomputable section

namespace Cert.Moe

open Idealize.ShloMosaic Idealize.ShloMosaic.TcCoe Cert.KernelIdeal

variable (m : (ℓ : Loc nD τ sig) → Buf (Elt Ideal) ℓ) (c : Dev nD)

/-- The reference's logits from the kernel's arguments. -/
abbrev refLogits := Ref.logits (F := Ideal) (Kernel.hs m c) (Kernel.tv m c) (Kernel.W1 m c) (Kernel.b1 m c) (Kernel.W2 m c) (Kernel.b2 m c)

/-- The expert numbers agree. -/
theorem actions_eq : Ref.argMax (refLogits m c) = Kernel.actions m c := by
  funext i
  obtain ⟨b, s, rfl⟩ : ∃ (b : Fin 4) (s : Fin 2048), i = ix2 b s := ⟨_, _, eq_ix2 i⟩
  exact (Ref.action_value _ _ _ _ _ _ b s).trans (Kernel.actions_apply m c b s).symm

/-- The chosen experts' layers agree. -/
theorem outs_eq : Ref.product (F := Ideal) (Kernel.hs m c) (Ref.weights (Kernel.We m c) (Ref.argMax (refLogits m c)))
    (Ref.biases (Kernel.be m c) (Ref.argMax (refLogits m c))) = Kernel.outs m c := by
  funext i
  obtain ⟨b, s, n, rfl⟩ : ∃ (b : Fin 4) (s : Fin 2048) (n : Fin 128), i = ix3 b s n := ⟨_, _, _, eq_ix3 i⟩
  exact (Ref.out_value _ _ _ _ _ _ _ _ b s n).trans (Kernel.outs_apply m c b s n).symm

/-- The log-probabilities agree when the router's last layer is finite. -/
theorem logprobs_eq (hW : ∀ j e, ∃ r : ℝ, Kernel.W2 m c (ix2 j e) = r) (hb : ∀ e, ∃ r : ℝ, Kernel.b2 m c (ix1 e) = r) :
    shapeCast Cert.ReferenceIdeal.S4x2048 (Ref.along (F := Ideal) (Ref.logSoftmax (refLogits m c))
      (broadcastInDim Cert.ReferenceIdeal.S4x2048x1 ![0, 1] Cert.ReferenceIdeal.Gen.bcast_S4x2048_S4x2048x1_0_1
        (Ref.argMax (refLogits m c)))) Cert.ReferenceIdeal.Gen.shapeCasts_S4x2048x1_S4x2048 = Kernel.logprobs m c := by
  funext i
  obtain ⟨b, s, rfl⟩ : ∃ (b : Fin 4) (s : Fin 2048), i = ix2 b s := ⟨_, _, eq_ix2 i⟩
  have h := top_real (Kernel.token m c b s) fun e => logit_real _ _ _ _ _ _ hW hb e
  exact (Ref.logprob_value _ _ _ _ _ _ b s h.1 h.2).trans (Kernel.logprobs_apply m c b s).symm

end Cert.Moe

end

end
-- ==== Proof.lean ====
/-
  THE CLAIM.

  The frames of the kernel come from its launch, the reference's from its run; the algebraic claim joins the two runs by
  the equation between their results (Proof/Equation.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_router
public import proofs.«01_k».proof.Proof.RefRead
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- The reference's run ends with its arguments unchanged; it has no semaphore to leave raised. -/
theorem frame_reference : Cert.quiescent_ReferenceIdeal := fun m g _ =>
  (θ_run Cert.ReferenceIdeal.defs _ _).mono (fun r h => ⟨fun c => by
      obtain ⟨a0, a1, a2, a3, a4, a5, a6, a7⟩ := Moe.Ref.args_read (StableHlo.launchContents m c)
      exact ⟨(h c _).trans a0, (h c _).trans a1, (h c _).trans a2, (h c _).trans a3, (h c _).trans a4, (h c _).trans a5,
        (h c _).trans a6, (h c _).trans a7⟩,
    sem_eq_zero_of_no_sems (by decide) r.2⟩)
    (Moe.Ref.run (F := Ideal) m g)

/-- From arguments that agree, the kernel and the reference end with equal results. -/
theorem algebraic : Cert.algebraic_KernelIdeal_ReferenceIdeal_pre_finite_router := by
  intro m g m' g' hpre hagree
  refine ⟨fun c => Moe.Kernel.outs m c, fun c => Moe.Kernel.logprobs m c, fun c => Moe.Kernel.actions m c, ?_, ?_⟩
  · exact (θ_run Cert.KernelIdeal.defs _ _).mono
      (fun r h c => ⟨(h.1 c).1, (h.1 c).2.1, (h.1 c).2.2, h.2 c⟩)
      (θ_run_and (Moe.Kernel.results m g) (Cert.KernelIdeal.Gen.unchanged m g))
  · refine (θ_run Cert.ReferenceIdeal.defs _ _).mono (fun r h c => ?_) (Moe.Ref.run (F := Ideal) m' g')
    obtain ⟨e0, e1, e2, e3, e4, e5, e6, e7⟩ := hagree c
    obtain ⟨hW, hb⟩ := Moe.finite_router_real _ _ _ _ _ _ _ _ (hpre c)
    obtain ⟨r0, r1, r2⟩ := Moe.Ref.results (F := Ideal) (StableHlo.launchContents m' c)
    obtain ⟨a0, a1, a2, a3, a4, a5, a6, a7⟩ := Moe.Ref.args_read (F := Ideal) (StableHlo.launchContents m' c)
    simp only [StableHlo.launchContents_devRef, e0, e1, e2, e3, e4, e5, e6, e7] at r0 r1 r2
    exact ⟨(h c _).trans (r0.trans (Moe.outs_eq m c)), (h c _).trans (r1.trans (Moe.logprobs_eq m c hW hb)),
      (h c _).trans (r2.trans (Moe.actions_eq m c)), (h c _).trans a0, (h c _).trans a1, (h c _).trans a2,
      (h c _).trans a3, (h c _).trans a4, (h c _).trans a5, (h c _).trans a6, (h c _).trans a7⟩

/-- All the claims. -/
theorem claim : Cert.Claim :=
  ⟨Cert.Kernel.Gen.facts, Cert.KernelIdeal.Gen.facts, Cert.ReferenceIdeal.Gen.facts, Cert.Pre_finite_router.Gen.facts,
    fun m g _ => Cert.Kernel.Gen.frame m g,
    fun m g _ => Cert.KernelIdeal.Gen.frame m g,
    fun m g _ => Cert.KernelIdeal.Gen.frame m g,
    frame_reference,
    fun m g _ => frame_reference m g trivial,
    trivial,
    algebraic⟩

end Cert.Proof

end
